-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S16x4097x128 : Shape := ⟨3, ![16, 4097, 128]⟩
abbrev S16x4096 : Shape := ⟨2, ![16, 4096]⟩
abbrev S16 : Shape := ⟨1, ![16]⟩
abbrev S128x4 : Shape := ⟨2, ![128, 4]⟩
abbrev S4 : Shape := ⟨1, ![4]⟩
abbrev S16x4096x128 : Shape := ⟨3, ![16, 4096, 128]⟩
abbrev S_ : Shape := ⟨0, ![]⟩
abbrev S16x4096x1 : Shape := ⟨3, ![16, 4096, 1]⟩
abbrev S16x4096x128x1 : Shape := ⟨4, ![16, 4096, 128, 1]⟩
abbrev S1x4 : Shape := ⟨2, ![1, 4]⟩
abbrev S1x1x128x4 : Shape := ⟨4, ![1, 1, 128, 4]⟩
abbrev S16x4096x128x4 : Shape := ⟨4, ![16, 4096, 128, 4]⟩

class Facts : Prop where
  slices_S16x4097x128_S16x4096x128_0_0_0 : S16x4097x128.Slices ![0, 0, 0] S16x4096x128
  bcast_S_S16x4096x128 : S_.BroadcastsInDim S16x4096x128 (![] : Fin 0 → Fin S16x4096x128.rank)
  bcast_S_S16x4096 : S_.BroadcastsInDim S16x4096 (![] : Fin 0 → Fin S16x4096.rank)
  bcast_S_S128x4 : S_.BroadcastsInDim S128x4 (![] : Fin 0 → Fin S128x4.rank)
  bcast_S_S4 : S_.BroadcastsInDim S4 (![] : Fin 0 → Fin S4.rank)
  bcast_S16x4096_S16x4096x1_0_1 : S16x4096.BroadcastsInDim S16x4096x1 (![0, 1] : Fin 2 → Fin S16x4096x1.rank)
  bcast_S16x4096x1_S16x4096x128_0_1_2 : S16x4096x1.BroadcastsInDim S16x4096x128 (![0, 1, 2] : Fin 3 → Fin S16x4096x128.rank)
  bcast_S16x4096x128_S16x4096x128x1_0_1_2 : S16x4096x128.BroadcastsInDim S16x4096x128x1 (![0, 1, 2] : Fin 3 → Fin S16x4096x128x1.rank)
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  bcast_S128x4_S1x1x128x4_2_3 : S128x4.BroadcastsInDim S1x1x128x4 (![2, 3] : Fin 2 → Fin S1x1x128x4.rank)
  bcast_S16x4096x128x1_S16x4096x128x4_0_1_2_3 : S16x4096x128x1.BroadcastsInDim S16x4096x128x4 (![0, 1, 2, 3] : Fin 4 → Fin S16x4096x128x4.rank)
  bcast_S1x1x128x4_S16x4096x128x4_0_1_2_3 : S1x1x128x4.BroadcastsInDim S16x4096x128x4 (![0, 1, 2, 3] : Fin 4 → Fin S16x4096x128x4.rank)

variable [Facts]

def fn_part1 {F : FTy → Type} [FloatOps F] (main_v11 : IVec S128x4 1) (main_v14 : IVec S4 1) (main_v18 : IVec S16x4096x128x1 1) : IVec S16x4096x128x4 1 :=
  let main_v19 : IVec S1x4 1 := broadcastInDim S1x4 ![1] bcast_S4_S1x4_1 main_v14
  let main_v20 : IVec S128x4 1 := broadcastInDim S128x4 ![0, 1] bcast_S1x4_S128x4_0_1 main_v19
  let main_v21 : IVec S128x4 1 := andi main_v11 main_v20
  let main_v22 : IVec S1x1x128x4 1 := broadcastInDim S1x1x128x4 ![2, 3] bcast_S128x4_S1x1x128x4_2_3 main_v21
  let main_v23 : IVec S16x4096x128x4 1 := broadcastInDim S16x4096x128x4 ![0, 1, 2, 3] bcast_S16x4096x128x1_S16x4096x128x4_0_1_2_3 main_v18
  let main_v24 : IVec S16x4096x128x4 1 := broadcastInDim S16x4096x128x4 ![0, 1, 2, 3] bcast_S1x1x128x4_S16x4096x128x4_0_1_2_3 main_v22
  let main_v25 : IVec S16x4096x128x4 1 := andi main_v23 main_v24
  main_v25

def fn {F : FTy → Type} [FloatOps F] (main_arg0 : FVec F S16x4097x128 .f32) (main_arg1 : IVec S16x4096 32) (main_arg2 : IVec S16 32) (main_arg3 : FVec F S128x4 .f32) (main_arg4 : FVec F S4 .f32) : IVec S16x4096x128x4 1 :=
  let main_v0 : FVec F S16x4096x128 .f32 := (extractStridedSlice S16x4096x128 ![0, 0, 0] · slices_S16x4097x128_S16x4096x128_0_0_0) main_arg0
  let main_v1 : FVec F S16x4096x128 .f32 := Host.absf main_v0
  let main_cst : FVec F S_ .f32 := constant S_ .f32 0x7F800000#32
  let main_v2 : FVec F S16x4096x128 .f32 := broadcastInDim S16x4096x128 ![] bcast_S_S16x4096x128 main_cst
  let main_v3 : IVec S16x4096x128 1 := cmpf .olt main_v1 main_v2
  let main_c : IVec S_ 32 := constantI S_ 32 0#32
  let main_v4 : IVec S16x4096 32 := broadcastInDim S16x4096 ![] bcast_S_S16x4096 main_c
  let main_v5 : IVec S16x4096 1 := cmpi .sge main_arg1 main_v4
  let main_c_0 : IVec S_ 32 := constantI S_ 32 4#32
  let main_v6 : IVec S16x4096 32 := broadcastInDim S16x4096 ![] bcast_S_S16x4096 main_c_0
  let main_v7 : IVec S16x4096 1 := cmpi .slt main_arg1 main_v6
  let main_v8 : IVec S16x4096 1 := andi main_v5 main_v7
  let main_v9 : FVec F S128x4 .f32 := Host.absf main_arg3
  let main_cst_1 : FVec F S_ .f32 := constant S_ .f32 0x7F800000#32
  let main_v10 : FVec F S128x4 .f32 := broadcastInDim S128x4 ![] bcast_S_S128x4 main_cst_1
  let main_v11 : IVec S128x4 1 := cmpf .olt main_v9 main_v10
  let main_v12 : FVec F S4 .f32 := Host.absf main_arg4
  let main_cst_2 : FVec F S_ .f32 := constant S_ .f32 0x7F800000#32
  let main_v13 : FVec F S4 .f32 := broadcastInDim S4 ![] bcast_S_S4 main_cst_2
  let main_v14 : IVec S4 1 := cmpf .olt main_v12 main_v13
  let main_v15 : IVec S16x4096x1 1 := broadcastInDim S16x4096x1 ![0, 1] bcast_S16x4096_S16x4096x1_0_1 main_v8
  let main_v16 : IVec S16x4096x128 1 := broadcastInDim S16x4096x128 ![0, 1, 2] bcast_S16x4096x1_S16x4096x128_0_1_2 main_v15
  let main_v17 : IVec S16x4096x128 1 := andi main_v3 main_v16
  let main_v18 : IVec S16x4096x128x1 1 := broadcastInDim S16x4096x128x1 ![0, 1, 2] bcast_S16x4096x128_S16x4096x128x1_0_1_2 main_v17
  fn_part1 (F := F) main_v11 main_v14 main_v18
-- ==== Kernel.lean ====
abbrev S16x4097x128 : Shape := ⟨3, ![16, 4097, 128]⟩
abbrev S16x4096 : Shape := ⟨2, ![16, 4096]⟩
abbrev S16 : Shape := ⟨1, ![16]⟩
abbrev S128x4 : Shape := ⟨2, ![128, 4]⟩
abbrev S4 : Shape := ⟨1, ![4]⟩
abbrev S4097x16x128 : Shape := ⟨3, ![4097, 16, 128]⟩
abbrev S65552x128 : Shape := ⟨2, ![65552, 128]⟩
abbrev S16x4x1024 : Shape := ⟨3, ![16, 4, 1024]⟩
abbrev S4x1024x16 : Shape := ⟨3, ![4, 1024, 16]⟩
abbrev S4x128x128 : Shape := ⟨3, ![4, 128, 128]⟩
abbrev S4x128 : Shape := ⟨2, ![4, 128]⟩
abbrev S1x1 : Shape := ⟨2, ![1, 1]⟩
abbrev S16384x128 : Shape := ⟨2, ![16384, 128]⟩
abbrev S1x128x128 : Shape := ⟨3, ![1, 128, 128]⟩
abbrev S4x16384 : Shape := ⟨2, ![4, 16384]⟩
abbrev S4x1 : Shape := ⟨2, ![4, 1]⟩
abbrev S1 : Shape := ⟨1, ![1]⟩
abbrev S128x128 : Shape := ⟨2, ![128, 128]⟩
abbrev S1x1x128x128 : Shape := ⟨4, ![1, 1, 128, 128]⟩
abbrev S1x1x1x1 : Shape := ⟨4, ![1, 1, 1, 1]⟩
abbrev S1x4x128x128 : Shape := ⟨4, ![1, 4, 128, 128]⟩

abbrev nBuf : Space → Nat
  | .hbm => 11
  | .vmem => 7
  | .smem => 3
  | _ => 0

abbrev bufTy : (tb : Table) → Fin (tcTables nBuf tb) → BufTy
  | .hbm, ⟨0, _⟩ => ⟨S16x4097x128, .f32⟩
  | .hbm, ⟨1, _⟩ => ⟨S16x4096, .i32⟩
  | .hbm, ⟨2, _⟩ => ⟨S128x4, .f32⟩
  | .hbm, ⟨3, _⟩ => ⟨S4, .f32⟩
  | .hbm, ⟨4, _⟩ => ⟨S4097x16x128, .f32⟩
  | .hbm, ⟨5, _⟩ => ⟨S65552x128, .f32⟩
  | .hbm, ⟨6, _⟩ => ⟨S16x4x1024, .i32⟩
  | .hbm, ⟨7, _⟩ => ⟨S4x1024x16, .i32⟩
  | .hbm, ⟨8, _⟩ => ⟨S4x128x128, .i32⟩
  | .hbm, ⟨9, _⟩ => ⟨S4x128, .f32⟩
  | .hbm, ⟨10, _⟩ => ⟨S1x1, .f32⟩
  | .local _ .vmem, ⟨0, _⟩ => ⟨S16384x128, .f32⟩
  | .local _ .vmem, ⟨1, _⟩ => ⟨S16384x128, .f32⟩
  | .local _ .vmem, ⟨2, _⟩ => ⟨S1x128x128, .i32⟩
  | .local _ .vmem, ⟨3, _⟩ => ⟨S1x128x128, .i32⟩
  | .local _ .vmem, ⟨4, _⟩ => ⟨S4x128, .f32⟩
  | .local _ .vmem, ⟨5, _⟩ => ⟨S1x128x128, .f32⟩
  | .local _ .vmem, ⟨6, _⟩ => ⟨S4x128x128, .f32⟩
  | .local _ .smem, ⟨0, _⟩ => ⟨S16, .i32⟩
  | .local _ .smem, ⟨1, _⟩ => ⟨S4, .f32⟩
  | .local _ .smem, ⟨2, _⟩ => ⟨S1x1, .f32⟩
  | _, _ => ⟨S16x4097x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c3_i32_33 : BitVec 32 := 3#32
  let v149 : BitVec 1 := Scalar.cmpi .eq arg0 c3_i32_33
  let v150 : BitVec 32 := Scalar.extui v149
  let c0_i32_34 : BitVec 32 := 0#32
  let v151 : BitVec 1 := Scalar.cmpi .ne v150 c0_i32_34
  v151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x4097x128 : Shape := ⟨3, ![16, 4097, 128]⟩
abbrev S16x4096 : Shape := ⟨2, ![16, 4096]⟩
abbrev S16 : Shape := ⟨1, ![16]⟩
abbrev S128x4 : Shape := ⟨2, ![128, 4]⟩
abbrev S4 : Shape := ⟨1, ![4]⟩
abbrev S16x4097x4 : Shape := ⟨3, ![16, 4097, 4]⟩
abbrev S1x1x4 : Shape := ⟨3, ![1, 1, 4]⟩
abbrev S_ : Shape := ⟨0, ![]⟩
abbrev S16x4097 : Shape := ⟨2, ![16, 4097]⟩
abbrev S16x4097x1 : Shape := ⟨3, ![16, 4097, 1]⟩
abbrev S16x4096x4 : Shape := ⟨3, ![16, 4096, 4]⟩
abbrev S16x4096x1 : Shape := ⟨3, ![16, 4096, 1]⟩
abbrev S16x4096x1x1 : Shape := ⟨4, ![16, 4096, 1, 1]⟩
abbrev S1 : Shape := ⟨1, ![1]⟩
abbrev S1x1x1x1 : Shape := ⟨4, ![1, 1, 1, 1]⟩
abbrev S4096 : Shape := ⟨1, ![4096]⟩
abbrev S1x4096 : Shape := ⟨2, ![1, 4096]⟩
abbrev S16x1 : Shape := ⟨2, ![16, 1]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x4097x128, .f32⟩
  | .hbm, ⟨1, _⟩ => ⟨S16x4096, .i32⟩
  | .hbm, ⟨2, _⟩ => ⟨S16, .i32⟩
  | .hbm, ⟨3, _⟩ => ⟨S128x4, .f32⟩
  | .hbm, ⟨4, _⟩ => ⟨S4, .f32⟩
  | .hbm, ⟨5, _⟩ => ⟨S16x4097x4, .f32⟩
  | .hbm, ⟨6, _⟩ => ⟨S1x1x4, .f32⟩
  | .hbm, ⟨7, _⟩ => ⟨S16x4097x4, .f32⟩
  | .hbm, ⟨8, _⟩ => ⟨S16x4097x4, .f32⟩
  | .hbm, ⟨9, _⟩ => ⟨S_, .f32⟩
  | .hbm, ⟨10, _⟩ => ⟨S16x4097, .f32⟩
  | .hbm, ⟨11, _⟩ => ⟨S_, .f32⟩
  | .hbm, ⟨12, _⟩ => ⟨S16x4097, .f32⟩
  | .hbm, ⟨13, _⟩ => ⟨S16x4097, .f32⟩
  | .hbm, ⟨14, _⟩ => ⟨S16x4097x1, .f32⟩
  | .hbm, ⟨15, _⟩ => ⟨S16x4097x4, .f32⟩
  | .hbm, ⟨16, _⟩ => ⟨S16x4097x4, .f32⟩
  | .hbm, ⟨17, _⟩ => ⟨S16x4097x4, .f32⟩
  | .hbm, ⟨18, _⟩ => ⟨S_, .f32⟩
  | .hbm, ⟨19, _⟩ => ⟨S16x4097, .f32⟩
  | .hbm, ⟨20, _⟩ => ⟨S16x4097x1, .f32⟩
  | .hbm, ⟨21, _⟩ => ⟨S16x4097x1, .f32⟩
  | .hbm, ⟨22, _⟩ => ⟨S16x4097x4, .f32⟩
  | .hbm, ⟨23, _⟩ => ⟨S16x4097x4, .f32⟩
  | .hbm, ⟨24, _⟩ => ⟨S16x4096x4, .f32⟩
  | .hbm, ⟨25, _⟩ => ⟨S16x4096x1, .i32⟩
  | .hbm, ⟨26, _⟩ => ⟨S_, .i32⟩
  | .hbm, ⟨27, _⟩ => ⟨S16x4096x1, .i32⟩
  | .hbm, ⟨28, _⟩ => ⟨S16x4096x1, .i1⟩
  | .hbm, ⟨29, _⟩ => ⟨S_, .i32⟩
  | .hbm, ⟨30, _⟩ => ⟨S16x4096x1, .i32⟩
  | .hbm, ⟨31, _⟩ => ⟨S16x4096x1, .i32⟩
  | .hbm, ⟨32, _⟩ => ⟨S16x4096x1, .i32⟩
  | .hbm, ⟨33, _⟩ => ⟨S16x4096x1x1, .i32⟩
  | .hbm, ⟨34, _⟩ => ⟨S1, .i32⟩
  | .hbm, ⟨35, _⟩ => ⟨S_, .i32⟩
  | .hbm, ⟨36, _⟩ => ⟨S16x4096x1x1, .i32⟩
  | .hbm, ⟨37, _⟩ => ⟨S16x4096x1x1, .i1⟩
  | .hbm, ⟨38, _⟩ => ⟨S1x1x1x1, .i32⟩
  | .hbm, ⟨39, _⟩ => ⟨S16x4096x1x1, .i32⟩
  | .hbm, ⟨40, _⟩ => ⟨S16x4096x1x1, .i1⟩
  | .hbm, ⟨41, _⟩ => ⟨S16x4096x1x1, .i1⟩
  | .hbm, ⟨42, _⟩ => ⟨S_, .i1⟩
  | .hbm, ⟨43, _⟩ => ⟨S16x4096x1, .i1⟩
  | .hbm, ⟨44, _⟩ => ⟨S16x4096x1, .f32⟩
  | .hbm, ⟨45, _⟩ => ⟨S_, .f32⟩
  | .hbm, ⟨46, _⟩ => ⟨S16x4096x1, .f32⟩
  | .hbm, ⟨47, _⟩ => ⟨S16x4096x1, .f32⟩
  | .hbm, ⟨48, _⟩ => ⟨S16x4096, .f32⟩
  | .hbm, ⟨49, _⟩ => ⟨S4096, .i32⟩
  | .hbm, ⟨50, _⟩ => ⟨S1x4096, .i32⟩
  | .hbm, ⟨51, _⟩ => ⟨S16x1, .i32⟩
  | .hbm, ⟨52, _⟩ => ⟨S16x4096, .i32⟩
  | .hbm, ⟨53, _⟩ => ⟨S16x4096, .i32⟩
  | .hbm, ⟨54, _⟩ => ⟨S16x4096, .i1⟩
  | .hbm, ⟨55, _⟩ => ⟨S16x4096, .f32⟩
  | .hbm, ⟨56, _⟩ => ⟨S16x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1, .f32⟩
  | _, _ => ⟨S16x4097x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩

abbrev nD : Nat := 1
abbrev τ : Topo := Topo.v7x

variable {F : FTy → Type} [FloatOps F]
-- ==== Proof.Launched.Body.lean ====
/- What one run of the kernel's body does, at any grid point: the two running sums go from whatever they held (or from
   zero, at the point that resets them) to one step further, and the last point writes their difference out. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.WholeRead
public import Idealize.ShloMosaic.Lib.Tactic
public import Idealize.ShloMosaic.Lib.WordCmp
public import Idealize.ShloMosaic.Lib.Pointwise.Index

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The step -/

/-- The one cell of a box of one element of a vector. -/
theorem only_cell {N : Nat} (n : Nat) (inb : ∀ a, (![n] : Fin 1 → Nat) a + (![1] : Fin 1 → Nat) a ≤ (⟨1, ![N]⟩ : Shape).size a)
    (y : (Rect.unit (s := ⟨1, ![N]⟩) (![n] : Fin 1 → Nat) ![1] inb).toLoadRect.shape.Idx) :
    (Rect.unit (s := ⟨1, ![N]⟩) (![n] : Fin 1 → Nat) ![1] inb).toLoadRect.idx y = ix1 (⟨n, inb 0⟩ : Fin N) := by
  funext a
  obtain rfl : a = 0 := Subsingleton.elim _ _
  have h : (y 0).val < 1 := (y 0).isLt
  refine Fin.ext ?_
  show n + 1 * (y 0).val = n
  omega

/-- One entry of a vector of four, as the body loads it, -/
def cell4 (X : Vec F S4 .f32) (n : Nat) (inb : ∀ a, (![n] : Fin 1 → Nat) a + (![1] : Fin 1 → Nat) a ≤ S4.size a) : F .f32 :=
  (View.ld X (Rect.unit (![n] : Fin 1 → Nat) ![1] inb))
    (Shape.Idx.first (s := (Rect.unit (s := S4) (![n] : Fin 1 → Nat) ![1] inb).toLoadRect.shape) Nat.one_pos)

/-- and of the table of sixteen. -/
def cell16 (X : Vec F S16 .i32) (n : Nat) (inb : ∀ a, (![n] : Fin 1 → Nat) a + (![1] : Fin 1 → Nat) a ≤ S16.size a) : BitVec 32 :=
  (View.ld X (Rect.unit (![n] : Fin 1 → Nat) ![1] inb))
    (Shape.Idx.first (s := (Rect.unit (s := S16) (![n] : Fin 1 → Nat) ![1] inb).toLoadRect.shape) Nat.one_pos)

theorem cell4_eq (X : Vec F S4 .f32) (n : Nat) (inb) : cell4 X n inb = X (ix1 (⟨n, inb 0⟩ : Fin 4)) := congrArg X (only_cell n inb _)

theorem cell16_eq (X : Vec F S16 .i32) (n : Nat) (inb) : cell16 (F := F) X n inb = X (ix1 (⟨n, inb 0⟩ : Fin 16)) := congrArg X (only_cell n inb _)

/-- The block of logits of one grid point: `x` the rows, `w` the transposed weights, `b` the bias. -/
def logits (x : Vec F S16384x128 .f32) (w : Vec F S4x128 .f32) (b : Vec F S4 .f32) : FVec F S4x128x128 .f32 :=
  k0_pay7 x w (cell4 b 0 inb_S4_S1_0) (cell4 b 1 inb_S4_S1_1) (cell4 b 2 inb_S4_S1_2) (cell4 b 3 inb_S4_S1_3)

/-- The log-sum-exp of each row of that block. -/
def lse (x : Vec F S16384x128 .f32) (w : Vec F S4x128 .f32) (b : Vec F S4 .f32) : FVec F S1x128x128 .f32 :=
  k0_pay8 x w (cell4 b 0 inb_S4_S1_0) (cell4 b 1 inb_S4_S1_1) (cell4 b 2 inb_S4_S1_2) (cell4 b 3 inb_S4_S1_3)

/-- The time of each row of the block at grid coordinates `i`. -/
def time (i : grid0.Coords) : IVec S1x128x128 32 := k0_pay12 (BitVec.ofNat 32 (i 0).val) k0_pay9

/-- The length of the sequence each row of the block belongs to, picked from the table `l`. -/
def rowLen (l : Vec F S16 .i32) : IVec S1x128x128 32 :=
  k0_pay15 (F := F) (k0_pay11 k0_pay9)
    (k0_pay13 (F := F) k0_pay9 (cell16 l 0 inb_S16_S1_0) (cell16 l 1 inb_S16_S1_1) (cell16 l 2 inb_S16_S1_2) (cell16 l 3 inb_S16_S1_3)
      (cell16 l 4 inb_S16_S1_4) (cell16 l 5 inb_S16_S1_5) (cell16 l 6 inb_S16_S1_6))
    (k0_pay14 k0_pay9) (cell16 l 7 inb_S16_S1_7) (cell16 l 8 inb_S16_S1_8) (cell16 l 9 inb_S16_S1_9) (cell16 l 10 inb_S16_S1_10)
    (cell16 l 11 inb_S16_S1_11) (cell16 l 12 inb_S16_S1_12) (cell16 l 13 inb_S16_S1_13) (cell16 l 14 inb_S16_S1_14) (cell16 l 15 inb_S16_S1_15)

/-- The body resets the running sums: the grid's first point. -/
abbrev Resets (i : grid0.Coords) : Prop :=
  (Scalar.cmpi .ne (Scalar.extui (Scalar.cmpi .eq (BitVec.ofNat 32 (i 0).val) 0#32)) 0#32) = 1#1

/-- The body writes the result: the grid's last point. -/
abbrev Writes (i : grid0.Coords) : Prop := k0_cond2 i = 1#1

/-- The running sum of log-sum-exps the step starts from, over what the scratch held. -/
def from1 (i : grid0.Coords) (a : Vec F S1x128x128 .f32) : Vec F S1x128x128 .f32 := if Resets i then k0_pay5 (F := F) else a

/-- The running sum of selected logits the step starts from, over what the scratch held. -/
def from2 (i : grid0.Coords) (a : Vec F S4x128x128 .f32) : Vec F S4x128x128 .f32 := if Resets i then k0_pay6 (F := F) else a

/-- The running sum of log-sum-exps after the point at coordinates `i`. -/
def step1 (i : grid0.Coords) (x : Vec F S16384x128 .f32) (w : Vec F S4x128 .f32) (b : Vec F S4 .f32) (l : Vec F S16 .i32)
    (a : Vec F S1x128x128 .f32) : Vec F S1x128x128 .f32 := k0_pay2 (lse x w b) (time i) (rowLen l) a

/-- The running sum of selected logits after the point at coordinates `i`. -/
def step2 (i : grid0.Coords) (x : Vec F S16384x128 .f32) (act : Vec F S1x128x128 .i32) (w : Vec F S4x128 .f32) (b : Vec F S4 .f32)
    (l : Vec F S16 .i32) (a : Vec F S4x128x128 .f32) : Vec F S4x128x128 .f32 := k0_pay3 (logits x w b) (time i) (rowLen l) act a

/-- The one-element result block after the point at coordinates `i`, which held `d`, from the sums after the point. -/
def outAfter (i : grid0.Coords) (d : Vec F S1x1 .f32) (a1 : Vec F S1x128x128 .f32) (a2 : Vec F S4x128x128 .f32) : Vec F S1x1 .f32 :=
  if Writes i then fun _ => k0_pay4 a1 a2 else d

/-! ## The run -/

/-- The table of lengths as the body is handed it: the whole buffer, -/
abbrev tabM : Memref sig .tc .smem S16 .i32 := Memref.whole main_arg2

/-- held for reading, at contents `l`. -/
abbrev tabPt (c : Dev nD) (l : Buf (Elt F) ((tabM).view.loc (c : Thread nD τ))) : sProp 𝕄 :=
  (tabM).view.loc (c : Thread nD τ) ↦{fullShare.right} l

theorem zeros2 : (![0, 0] : Fin 2 → Nat) = fun _ => 0 := funext fun a => by fin_cases a <;> rfl
theorem zeros3 : (![0, 0, 0] : Fin 3 → Nat) = fun _ => 0 := funext fun a => by fin_cases a <;> rfl

/-- A buffer whose newest store covers it whole reads as what that store wrote. -/
theorem read_newest {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (p : S.Idx → Elt F e)
    (L : List (View.Piece (Elt F) S e)) :
    v.read (Elt F) (v.writes (Elt F) f (⟨Rect.unit off S.size inb, p⟩ :: L)) = p := by
  subst h
  funext y
  have e := View.read_writes_cons_emb (Val := Elt F) v f (Rect.whole S) p L y
  rwa [Rect.emb_whole_apply] at e

/-- Loading it whole gives the same. -/
theorem readCov_newest {sig' : RefSig} {κ : Kind} {sp : Space} {S : Shape} {e : EltTy} (v : View sig' κ sp S e)
    {off : Fin S.rank → Nat} (h : off = fun _ => 0) (inb : ∀ a, off a + S.size a ≤ S.size a) (p : S.Idx → Elt F e)
    (L : List (View.Piece (Elt F) S e)) :
    v.readCov (⟨Rect.unit off S.size inb, p⟩ :: L) (Rect.unit off S.size inb).toLoadRect = p := by
  rw [View.readCov_eq_canon_ld _ _ _ fun y => ⟨_, List.mem_cons_self, View.mem_set_unit_zero h inb _⟩,
    View.canon_cons_unit_zero h, View.ld_unit_zero h]

set_option maxHeartbeats 400000 in
/-- One run of the body: the inputs unchanged, each running sum one step further, the result block written at the last point. -/
theorem body_run (c : Dev nD) (i : grid0.Coords)
    (arg2 : Memref sig .tc .vmem S16384x128 .f32) (harg2 : arg2.IsWhole) (arg3 : Memref sig .tc .vmem S1x128x128 .i32) (harg3 : arg3.IsWhole)
    (arg4 : Memref sig .tc .vmem S4x128 .f32) (harg4 : arg4.IsWhole) (arg5 : Memref sig .tc .smem S4 .f32) (harg5 : arg5.IsWhole)
    (arg6 : Memref sig .tc .smem S1x1 .f32) (harg6 : arg6.IsWhole) (arg7 : Memref sig .tc .vmem S1x128x128 .f32) (harg7 : arg7.IsWhole)
    (arg8 : Memref sig .tc .vmem S4x128x128 .f32) (harg8 : arg8.IsWhole)
    (x : Vec F S16384x128 .f32) (act : Vec F S1x128x128 .i32) (w : Vec F S4x128 .f32) (b : Vec F S4 .f32)
    (l : Buf (Elt F) ((tabM).view.loc (c : Thread nD τ)))
    (d : Vec F S1x1 .f32) (a1 : Vec F S1x128x128 .f32) (a2 : Vec F S4x128x128 .f32) (E : Set ℕ) (K : PUnit → sProp 𝕄) :
    iprop(owns (c : Thread nD τ) arg2 fullShare x ∗ owns (c : Thread nD τ) arg3 fullShare act ∗ owns (c : Thread nD τ) arg4 fullShare w
        ∗ owns (c : Thread nD τ) arg5 fullShare b ∗ owns (c : Thread nD τ) arg6 fullShare d
        ∗ owns (c : Thread nD τ) arg7 fullShare a1 ∗ owns (c : Thread nD τ) arg8 fullShare a2 ∗ tabPt c l
        ∗ (iprop(owns (c : Thread nD τ) arg2 fullShare x ∗ owns (c : Thread nD τ) arg3 fullShare act ∗ owns (c : Thread nD τ) arg4 fullShare w
            ∗ owns (c : Thread nD τ) arg5 fullShare b
            ∗ owns (c : Thread nD τ) arg6 fullShare (outAfter i d (step1 i x w b l (from1 i a1)) (step2 i x act w b l (from2 i a2)))
            ∗ owns (c : Thread nD τ) arg7 fullShare (step1 i x w b l (from1 i a1))
            ∗ owns (c : Thread nD τ) arg8 fullShare (step2 i x act w b l (from2 i a2)) ∗ tabPt c l) -∗ K ⟨⟩))
      ⊢ wp frame (wpE (defs₀ (F := F)) Variants.none c none) E
          (cc0__body i tabM (Memref.isWhole_whole _) arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HT0, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  have ldX : ∀ (X : Vec F S16384x128 .f32) inb, View.ld X (Rect.unit (![0, 0] : Fin 2 → Nat) ![16384, 128] inb) = X :=
    fun X inb => View.ld_unit_zero zeros2 inb X
  have ldW : ∀ (X : Vec F S4x128 .f32) inb, View.ld X (Rect.unit (![0, 0] : Fin 2 → Nat) ![4, 128] inb) = X :=
    fun X inb => View.ld_unit_zero zeros2 inb X
  have ldA : ∀ (X : Vec F S1x128x128 .i32) inb, View.ld X (Rect.unit (![0, 0, 0] : Fin 3 → Nat) ![1, 128, 128] inb) = X :=
    fun X inb => View.ld_unit_zero zeros3 inb X
  have ld1 : ∀ (X : Vec F S1x128x128 .f32) inb, View.ld X (Rect.unit (![0, 0, 0] : Fin 3 → Nat) ![1, 128, 128] inb) = X :=
    fun X inb => View.ld_unit_zero zeros3 inb X
  have ld2 : ∀ (X : Vec F S4x128x128 .f32) inb, View.ld X (Rect.unit (![0, 0, 0] : Fin 3 → Nat) ![4, 128, 128] inb) = X :=
    fun X inb => View.ld_unit_zero zeros3 inb X
  have readW1 : ∀ f inb (p : Vec F S1x128x128 .f32) L, arg7.view.read (Elt F)
      (arg7.view.writes (Elt F) f (⟨Rect.unit (![0, 0, 0] : Fin 3 → Nat) ![1, 128, 128] inb, p⟩ :: L)) = p :=
    fun f inb p L => read_newest arg7.view f zeros3 inb p L
  have readW2 : ∀ f inb (p : Vec F S4x128x128 .f32) L, arg8.view.read (Elt F)
      (arg8.view.writes (Elt F) f (⟨Rect.unit (![0, 0, 0] : Fin 3 → Nat) ![4, 128, 128] inb, p⟩ :: L)) = p :=
    fun f inb p L => read_newest arg8.view f zeros3 inb p L
  have readW6 : ∀ f inb (p : Vec F S1x1 .f32) L, arg6.view.read (Elt F)
      (arg6.view.writes (Elt F) f (⟨Rect.unit (![0, 0] : Fin 2 → Nat) ![1, 1] inb, p⟩ :: L)) = p :=
    fun f inb p L => read_newest arg6.view f zeros2 inb p L
  have covW1 : ∀ inb (p : Vec F S1x128x128 .f32) L, arg7.view.readCov ((⟨Rect.unit (![0, 0, 0] : Fin 3 → Nat) ![1, 128, 128] inb, p⟩ :
      View.Piece (Elt F) S1x128x128 .f32) :: L) (Rect.unit (![0, 0, 0] : Fin 3 → Nat) ![1, 128, 128] inb).toLoadRect = p :=
    fun inb p L => readCov_newest (S := S1x128x128) arg7.view zeros3 inb p L
  have covW2 : ∀ inb (p : Vec F S4x128x128 .f32) L, arg8.view.readCov ((⟨Rect.unit (![0, 0, 0] : Fin 3 → Nat) ![4, 128, 128] inb, p⟩ :
      View.Piece (Elt F) S4x128x128 .f32) :: L) (Rect.unit (![0, 0, 0] : Fin 3 → Nat) ![4, 128, 128] inb).toLoadRect = p :=
    fun inb p L => readCov_newest (S := S4x128x128) arg8.view zeros3 inb p L
  have readT : View.read (Elt F) (View.whole main_arg2) l = l := rfl
  have e1 : Resets i → from1 i a1 = k0_pay5 (F := F) := fun h => if_pos h
  have e2 : Resets i → from2 i a2 = k0_pay6 (F := F) := fun h => if_pos h
  have n1 : ¬ Resets i → from1 i a1 = a1 := fun h => if_neg h
  have n2 : ¬ Resets i → from2 i a2 = a2 := fun h => if_neg h
  have ew : ∀ p q, Writes i → outAfter i d p q = fun _ => k0_pay4 p q := fun p q h => if_pos h
  have nw : ∀ p q, ¬ Writes i → outAfter i d p q = d := fun p q h => if_neg h
  by_cases hc0 : Resets i <;> by_cases hc1 : Writes i
  all_goals
    first | rw [e1 hc0, e2 hc0] | rw [n1 hc0, n2 hc0]
    first | rw [ew _ _ hc1] | rw [nw _ _ hc1]
    unfold step1 step2 logits lse rowLen time cell4 cell16
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      simp only [readW1, readW2, readW6, covW1, covW2, View.readAt_eq_ld, ldX, ldA, ldW, ld1, ld2, harg2.read_unread, harg3.read_unread, harg4.read_unread,
        harg5.read_unread, harg6.read_unread, harg7.read_unread, harg8.read_unread, readT]
      first | done | with_reducible rfl | exact funext fun _ => by with_reducible rfl
    isplitl [HS0]
    · iexists _; isplitr; swap; · iexact HS0
      ipureintro
      sl_unfold_run_names
      simp only [readW1, readW2, readW6, covW1, covW2, View.readAt_eq_ld, ldX, ldA, ldW, ld1, ld2, harg2.read_unread, harg3.read_unread, harg4.read_unread,
        harg5.read_unread, harg6.read_unread, harg7.read_unread, harg8.read_unread, readT]
      first | done | with_reducible rfl | exact funext fun _ => by with_reducible rfl
    isplitl [HS1]
    · iexists _; isplitr; swap; · iexact HS1
      ipureintro
      sl_unfold_run_names
      simp only [readW1, readW2, readW6, covW1, covW2, View.readAt_eq_ld, ldX, ldA, ldW, ld1, ld2, harg2.read_unread, harg3.read_unread, harg4.read_unread,
        harg5.read_unread, harg6.read_unread, harg7.read_unread, harg8.read_unread, readT]
      first | done | with_reducible rfl | exact funext fun _ => by with_reducible rfl
    iexact HT0

end Cert.KernelIdeal.Launched

end
-- ==== Proof.Launched.Setup.lean ====
/- The launch: what each window's block holds at a grid point, the two running sums point by point, and the proof data of the
   pipeline over them. -/
module

public import proofs.«01_k».proof.Proof.Launched.Body

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipeline -/

/-- Core `c`'s buffers when the pipeline is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the pipeline is its host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is as launched when the pipeline is entered. -/
theorem V_of_unwritten (c : Dev nD) (b : Ref sig .tc)
    (h0 : main_call0_v0 ≠ b) (h1 : main_call0_v1 ≠ b) (h2 : main_call0_v2 ≠ b) (h3 : main_call0_v3 ≠ b) (h4 : main_call0_v4 ≠ b)
    (h5 : main_call0_v5 ≠ b) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨?_, ?_, ?_, ?_, ?_, ?_⟩ <;> refine StableHlo.devRef_ne_of_ne (Ne.symm ?_) <;> assumption))

theorem V_arg0 (c : Dev nD) : V m c main_arg0 = m ((c : Thread nD τ).loc main_arg0) :=
  V_of_unwritten m c _ (by decide) (by decide) (by decide) (by decide) (by decide) (by decide)
theorem V_arg1 (c : Dev nD) : V m c main_arg1 = m ((c : Thread nD τ).loc main_arg1) :=
  V_of_unwritten m c _ (by decide) (by decide) (by decide) (by decide) (by decide) (by decide)
theorem V_arg2 (c : Dev nD) : V m c main_arg2 = m ((c : Thread nD τ).loc main_arg2) :=
  V_of_unwritten m c _ (by decide) (by decide) (by decide) (by decide) (by decide) (by decide)
theorem V_arg3 (c : Dev nD) : V m c main_arg3 = m ((c : Thread nD τ).loc main_arg3) :=
  V_of_unwritten m c _ (by decide) (by decide) (by decide) (by decide) (by decide) (by decide)
theorem V_arg4 (c : Dev nD) : V m c main_arg4 = m ((c : Thread nD τ).loc main_arg4) :=
  V_of_unwritten m c _ (by decide) (by decide) (by decide) (by decide) (by decide) (by decide)

/-! ## The table of lengths -/

/-- The table's contents when the pipeline is entered. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No window's block is chosen by the table, so any contents are admissible. -/
abbrev adm : (pcfg0 (F := F)).Adm := ⟨tbl m, trivial⟩

/-- The pipeline at those contents. -/
abbrev cfgM : Pipeline.Cfg sig Λ₀ := cfg0 (adm m)

/-- The sequence lengths, as the body reads them. -/
abbrev lens : Vec F S16 .i32 := tbl m 0

theorem PhiT_eq (c : Dev nD) : (Pipeline.ΦT pre0 (tbl m) c : sProp 𝕄) = tabPt c (lens m) := by
  unfold Pipeline.ΦT Pipeline.prefHeld
  rw [show (Finset.univ : Finset (Fin 1)) = {(0 : Fin 1)} from by decide, bigSep_singleton]
  rfl

/-! ## The windows' blocks -/

/-- Window `w`'s block at point `t`, read off its array. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Something for the rows of a block that no transfer fills: there are none. -/
def noRow : ((cfgM m).win 0).block.Idx → Elt F ((cfgM m).win 0).elt := fun _ => Classical.choice inferInstance

/-- The rows' block at point `t`, whole: the last row of the array is in no block, and every block lies inside the array. -/
def whole0 (c : Dev nD) (t : Fin (cfgM m).N) : ((cfgM m).win 0).block.Idx → Elt F ((cfgM m).win 0).elt :=
  ((cfgM m).win 0).fill ((cfgM m).grid.coords t) (noRow m) (iblk m c 0 t)

/-- The same, as rows of features. -/
abbrev rows (c : Dev nD) (t : Fin (cfgM m).N) : Vec F S16384x128 .f32 := whole0 m c t

theorem xsize_rows (t : Fin (cfgM m).N) : ∀ a, ((cfgM m).win 0).xsize ((cfgM m).grid.coords t) a = ((cfgM m).win 0).size a :=
  (by decide +kernel : ∀ t : Fin grid0.N, ∀ a, (Pipeline.Clip.of ((cc0_transform_0 (grid0.coords t)) a) (S16384x128.size a) (S65552x128.size a)).extent (S16384x128.size a) = S16384x128.size a) t

theorem moved_rows (t : Fin (cfgM m).N) (j : ((cfgM m).win 0).block.Idx) : ((cfgM m).win 0).moved ((cfgM m).grid.coords t) j = true :=
  (((cfgM m).win 0).moved_iff _ j).mpr fun a => by rw [xsize_rows m t a]; exact (j a).isLt

theorem fill_rows (t : Fin (cfgM m).N) (d d' : ((cfgM m).win 0).block.Idx → Elt F ((cfgM m).win 0).elt) (g) :
    ((cfgM m).win 0).fill ((cfgM m).grid.coords t) d g = ((cfgM m).win 0).fill ((cfgM m).grid.coords t) d' g := by
  funext j; unfold Pipeline.Window.fill; rw [dif_pos (moved_rows m t j), dif_pos (moved_rows m t j)]

/-- The actions of the rows of point `t`. -/
abbrev acts (c : Dev nD) (t : Fin (cfgM m).N) : Vec F S1x128x128 .i32 := iblk m c 1 t
/-- The transposed weights. -/
abbrev wts (c : Dev nD) (t : Fin (cfgM m).N) : Vec F S4x128 .f32 := iblk m c 2 t
/-- The bias. -/
abbrev bia (c : Dev nD) (t : Fin (cfgM m).N) : Vec F S4 .f32 := iblk m c 3 t

/-! ## The running sums, point by point -/

/-- The two running sums before point `n`. -/
def acc (c : Dev nD) : ℕ → Vec F S1x128x128 .f32 × Vec F S4x128x128 .f32
  | 0 => (k0_pay5 (F := F), k0_pay6 (F := F))
  | n + 1 => if h : n < (cfgM m).N then
      (step1 (grid0.coords ⟨n, h⟩) (rows m c ⟨n, h⟩) (wts m c ⟨n, h⟩) (bia m c ⟨n, h⟩) (lens m) (acc c n).1,
       step2 (grid0.coords ⟨n, h⟩) (rows m c ⟨n, h⟩) (acts m c ⟨n, h⟩) (wts m c ⟨n, h⟩) (bia m c ⟨n, h⟩) (lens m) (acc c n).2)
    else acc c n

theorem acc_succ (c : Dev nD) (t : Fin (cfgM m).N) : acc m c (t.val + 1) =
    (step1 (grid0.coords t) (rows m c t) (wts m c t) (bia m c t) (lens m) (acc m c t.val).1,
     step2 (grid0.coords t) (rows m c t) (acts m c t) (wts m c t) (bia m c t) (lens m) (acc m c t.val).2) := by
  rw [acc, dif_pos t.isLt]

/-- Before point `n` the scratch holds the running sums, but anything before the first; beside it the generator's register and the
    table of lengths. -/
def Inv (c : Dev nD) (n : ℕ) : sProp 𝕄 :=
  iprop((∃ d1 d2, ⌜n ≠ 0 → d1 = (acc m c n).1 ∧ d2 = (acc m c n).2⌝ ∗ owns (c : Thread nD τ) (Memref.whole cc0_scratch0) fullShare d1
    ∗ owns (c : Thread nD τ) (Memref.whole cc0_scratch1) fullShare d2) ∗ (∃ r, prngReg c r) ∗ tabPt c (lens m))

/-- What the result's block holds once written. -/
def result (c : Dev nD) (n : ℕ) : Vec F S1x1 .f32 := fun _ => k0_pay4 (acc m c n).1 (acc m c n).2

/-- The pipeline's proof data on core `c`. -/
def dats (_ : Fin 1) (c : Dev nD) : Dat τ (Elt F) Unit ℕ (UR sig nD τ) ℕ (cfgM m) c where
  A w := V m c (Pipeline.arrRef spec0 w)
  after w t := match w with
    | ⟨0, _⟩ => whole0 m c t
    | ⟨1, _⟩ => iblk m c 1 t
    | ⟨2, _⟩ => iblk m c 2 t
    | ⟨3, _⟩ => iblk m c 3 t
    | ⟨4, _⟩ => result m c (t.val + 1)
  Φ t := Inv m c t.val
  q _ := fullShare
  owed _ := 0

theorem A_eq (c : Dev nD) (w : Fin (cfgM m).W) : (dats m 0 c).A w = V m c (Pipeline.arrRef spec0 w) := by dsimp only [dats]

theorem after_0 (c : Dev nD) (t : Fin (cfgM m).N) : (dats m 0 c).after 0 t = whole0 m c t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = result m c (t.val + 1) := by dsimp only [dats]; try rfl

/-- An input's current buffer holds its block at every point. -/
theorem before_0 (c : Dev nD) (t : Fin (cfgM m).N) (d) : (dats m 0 c).before 0 t d = whole0 m c t :=
  ((dats m 0 c).before_in_eq_fetched 0 rfl (fun _ => rfl)
    (fun t t' h => funext fun a => congrArg (fun n => Pipeline.Clip.of n (((cfgM m).win 0).size a) (S65552x128.size a)) (congrFun h a))
    (fun t => by rw [after_0]; unfold whole0; rw [Pipeline.Window.cut_fill]; unfold Dat.blockOf iblk; rw [A_eq]; try rfl) t d).trans
    (by unfold Dat.fetched whole0; rw [fill_rows m t d (noRow m)]; unfold Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## Where the body resets and where it writes -/

theorem resets_iff : ∀ t : Fin grid0.N, Resets (grid0.coords t) ↔ t.val = 0 := by decide +kernel
theorem writes_iff : ∀ t : Fin grid0.N, Writes (grid0.coords t) ↔ t.val = 3 := by decide +kernel

theorem idle_4 (t : Fin (cfgM m).N) (h : ¬ Writes (grid0.coords t)) : (cfgM m).idle 4 (grid0.coords t) = true :=
  (by decide +kernel : ∀ t : Fin grid0.N, ¬ Writes (grid0.coords t) → idle0 4 (grid0.coords t) = true) t h
theorem noFlush_4 (t : Fin (cfgM m).N) (h : ¬ Writes (grid0.coords t)) : ((cfgM m).win 4).flush t = false :=
  (by decide +kernel : ∀ t : Fin grid0.N, ¬ Writes (grid0.coords t) → Pipeline.Window.flushOf grid0 true cc0_transform_4 t = false) t h
theorem live_4 (t : Fin (cfgM m).N) (h : Writes (grid0.coords t)) : (cfgM m).idle 4 (grid0.coords t) = false :=
  (by decide +kernel : ∀ t : Fin grid0.N, Writes (grid0.coords t) → idle0 4 (grid0.coords t) = false) t h

/-- Each window's current staging buffer at point `t`. -/
abbrev st0 (t : Fin (cfgM m).N) : Memref sig .tc .vmem S16384x128 .f32 := spec0_0.stage ((cfgM m).slots t 0)
abbrev st1 (t : Fin (cfgM m).N) : Memref sig .tc .vmem S1x128x128 .i32 := spec0_1.stage ((cfgM m).slots t 1)
abbrev st2 (t : Fin (cfgM m).N) : Memref sig .tc .vmem S4x128 .f32 := spec0_2.stage ((cfgM m).slots t 2)
abbrev st3 (t : Fin (cfgM m).N) : Memref sig .tc .smem S4 .f32 := spec0_3.stage ((cfgM m).slots t 3)
abbrev st4 (t : Fin (cfgM m).N) : Memref sig .tc .smem S1x1 .f32 := spec0_4.stage ((cfgM m).slots t 4)

theorem leaves_0 (c : Dev nD) (t : Fin (cfgM m).N) : (dats m 0 c).leavesExact 0 t = owns (c : Thread nD τ) (st0 m t) fullShare (rows m c t) := by
  rw [show rows m c t = (dats m 0 c).after 0 t from (after_0 m c t).symm]; unfold Dat.leavesExact; rw [show (cfgM m).idle 0 (grid0.coords t) = false from rfl]; try rfl
theorem leaves_1 (c : Dev nD) (t : Fin (cfgM m).N) : (dats m 0 c).leavesExact 1 t = owns (c : Thread nD τ) (st1 m t) fullShare (iblk m c 1 t) := by
  rw [← after_1]; unfold Dat.leavesExact; rw [show (cfgM m).idle 1 (grid0.coords t) = false from rfl]; try rfl
theorem leaves_2 (c : Dev nD) (t : Fin (cfgM m).N) : (dats m 0 c).leavesExact 2 t = owns (c : Thread nD τ) (st2 m t) fullShare (iblk m c 2 t) := by
  rw [← after_2]; unfold Dat.leavesExact; rw [show (cfgM m).idle 2 (grid0.coords t) = false from rfl]; try rfl
theorem leaves_3 (c : Dev nD) (t : Fin (cfgM m).N) : (dats m 0 c).leavesExact 3 t = owns (c : Thread nD τ) (st3 m t) fullShare (iblk m c 3 t) := by
  rw [← after_3]; unfold Dat.leavesExact; rw [show (cfgM m).idle 3 (grid0.coords t) = false from rfl]; try rfl

/-- What the body leaves in the result's buffer is what the pipeline asks of it: the result at the last point, anything elsewhere. -/
theorem leaves_4 (c : Dev nD) (t : Fin (cfgM m).N) (d) :
    owns (c : Thread nD τ) (st4 m t) fullShare (outAfter (grid0.coords t) ((dats m 0 c).before 4 t d) (acc m c (t.val + 1)).1 (acc m c (t.val + 1)).2)
      ⊢ (dats m 0 c).leavesExact 4 t := by
  by_cases h : Writes (grid0.coords t)
  · rw [show (dats m 0 c).leavesExact 4 t = owns (c : Thread nD τ) (st4 m t) fullShare ((dats m 0 c).after 4 t) from by
      unfold Dat.leavesExact; rw [live_4 m t h]; try rfl]
    rw [after_4, show outAfter (grid0.coords t) ((dats m 0 c).before 4 t d) (acc m c (t.val + 1)).1 (acc m c (t.val + 1)).2 = result m c (t.val + 1) from if_pos h]
  · rw [Dat.leavesExact_idle (dats m 0 c) 4 t (idle_4 m t h) (noFlush_4 m t h)]
    rw [show outAfter (grid0.coords t) ((dats m 0 c).before 4 t d) (acc m c (t.val + 1)).1 (acc m c (t.val + 1)).2
      = (dats m 0 c).before 4 t d from if_neg h]
    iintro H; iexists _; iexact H

end Cert.KernelIdeal.Launched

end
-- ==== Proof.Launched.Run.lean ====
/- The run: the body at every point takes the invariant one point further, so the launch ends with every counter at zero, the
   arguments unchanged, and the result's array at what the pipeline's data say. -/
module

public import proofs.«01_k».proof.Proof.Launched.Setup

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's body at point `t`, on the buffers the pipeline calls it with. -/
abbrev bodyAt (t : Fin (cfgM m).N) : Prog (TpuEff nD τ sig (Elt F) Λ₀ .tc) PUnit :=
  cc0__body (grid0.coords t) tabM (Memref.isWhole_whole _) (st0 m t) (hstage0_0 (((cfgM m).slots t 0).cast nbuf0_0))
    (st1 m t) (hstage0_1 (((cfgM m).slots t 1).cast nbuf0_1)) (st2 m t) (hstage0_2 (((cfgM m).slots t 2).cast nbuf0_2))
    (st3 m t) (hstage0_3 (((cfgM m).slots t 3).cast nbuf0_3)) (st4 m t) (hstage0_4 (((cfgM m).slots t 4).cast nbuf0_4))
    (Memref.whole cc0_scratch0) (Memref.isWhole_whole _) (Memref.whole cc0_scratch1) (Memref.isWhole_whole _)

/-- What the step at point `t` starts from, over scratch that holds the running sums (or anything, at the first point). -/
theorem from_acc (c : Dev nD) (t : Fin (cfgM m).N) (d1 d2) (h : t.val ≠ 0 → d1 = (acc m c t.val).1 ∧ d2 = (acc m c t.val).2) :
    from1 (grid0.coords t) d1 = (acc m c t.val).1 ∧ from2 (grid0.coords t) d2 = (acc m c t.val).2 := by
  unfold from1 from2
  by_cases hz : t.val = 0
  · rw [if_pos ((resets_iff t).mpr hz), if_pos ((resets_iff t).mpr hz), hz]; exact ⟨rfl, rfl⟩
  · rw [if_neg fun h' => hz ((resets_iff t).mp h'), if_neg fun h' => hz ((resets_iff t).mp h')]; exact h hz

set_option maxHeartbeats 1000000 in
/-- The body at any point, on what the pipeline hands it. -/
theorem sound_body (c : Dev nD) (t : Fin (cfgM m).N) :
    iprop((dats m 0 c).Φ t.castSucc ∗ (dats m 0 c).owesAt () t.castSucc
      ∗ (∃ d, owns (c : Thread nD τ) (st0 m t) fullShare ((dats m 0 c).before 0 t d))
      ∗ (∃ d, owns (c : Thread nD τ) (st1 m t) fullShare ((dats m 0 c).before 1 t d))
      ∗ (∃ d, owns (c : Thread nD τ) (st2 m t) fullShare ((dats m 0 c).before 2 t d))
      ∗ (∃ d, owns (c : Thread nD τ) (st3 m t) fullShare ((dats m 0 c).before 3 t d))
      ∗ (∃ d, owns (c : Thread nD τ) (st4 m t) fullShare ((dats m 0 c).before 4 t d)))
    ⊢ wp frame (wpE (defs₀ (F := F)) Variants.none c none) Set.univ (bodyAt m t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t)) := by
  simp only [before_0, before_1, before_2, before_3]
  rw [show (dats m 0 c).owesAt () t.succ = (dats m 0 c).owesAt () t.castSucc from rfl, leaves_0, leaves_1, leaves_2, leaves_3,
    show (dats m 0 c).Φ t.castSucc = Inv m c t.val from rfl, show (dats m 0 c).Φ t.succ = Inv m c (t.val + 1) from rfl]
  unfold Inv bodyAt
  iintro ⟨⟨⟨%d1, %d2, %hd, HS0, HS1⟩, Hg, HT⟩, Ho, ⟨%e0, H0⟩, ⟨%e1, H1⟩, ⟨%e2, H2⟩, ⟨%e3, H3⟩, ⟨%e4, H4⟩⟩
  obtain ⟨hf1, hf2⟩ := from_acc m c t d1 d2 hd
  iapply (body_run c (grid0.coords t) _ _ _ _ _ _ _ _ _ _ _ _ _ _ (rows m c t) (acts m c t) (wts m c t) (bia m c t) (lens m)
    ((dats m 0 c).before 4 t e4) d1 d2 Set.univ _)
  rw [hf1, hf2]
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HT]; · iexact HT
  iintro ⟨H0, H1, H2, H3, H4, HS0, HS1, HT⟩
  isplitl [HS0 HS1 Hg HT]
  · isplitl [HS0 HS1]
    · iexists _; iexists _
      isplitr; swap
      · isplitl [HS0]; · iexact HS0
        iexact HS1
      ipureintro; intro _; rw [acc_succ]; exact ⟨rfl, rfl⟩
    isplitl [Hg]; · iexact Hg
    iexact HT
  isplitl [Ho]; · iexact Ho
  isplitl [H0]; · iexact H0
  isplitl [H1]; · iexact H1
  isplitl [H2]; · iexact H2
  isplitl [H3]; · iexact H3
  iapply (leaves_4 m c t e4)
  rw [acc_succ]
  iexact H4

theorem defs_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs_row m]
  exact triple_restated (sound_body m c t) rfl .rfl fun _ => .rfl

theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d))
        ∗ (∃ r, prngReg c r)) := by
  unfold Pipeline.ΦA; rw [scopedRest0_eq]; simp only [owns_whole]; try rfl

/-- The invariant before the first point is what the launch hands over. -/
theorem hin (c : Dev nD) : iprop(Pipeline.ΦA spec0 c ∗ Pipeline.ΦT pre0 (tbl m) c) ⊢ (dats m 0 c).Φ 0 := by
  rw [show (dats m 0 c).Φ 0 = Inv m c 0 from rfl, PhiA_eq, PhiT_eq]
  unfold Inv
  iintro ⟨⟨⟨⟨%d1, HS0⟩, ⟨%d2, HS1⟩⟩, Hg⟩, HT⟩
  isplitl [HS0 HS1]
  · iexists d1; iexists d2
    isplitr
    · ipureintro; intro h; exact absurd rfl h
    isplitl [HS0]; · iexact HS0
    iexact HS1
  isplitl [Hg]; · iexact Hg
  iexact HT

/-- After the last point the scratch is given back. -/
theorem hout (c : Dev nD) : (dats m 0 c).Φ (Fin.last (cfgM m).N) ⊢ Pipeline.ΦA spec0 c := by
  rw [show (dats m 0 c).Φ (Fin.last (cfgM m).N) = Inv m c (cfgM m).N from rfl, PhiA_eq]
  unfold Inv
  iintro ⟨⟨%d1, %d2, -, HS0, HS1⟩, Hg, -⟩
  isplitl [HS0 HS1]
  · isplitl [HS0]
    · iexists _; iexact HS0
    iexists _; iexact HS1
  iexact Hg

/-! ## The launch -/

set_option backward.isDefEq.respectTransparency.types false in
/-- Every execution ends, with the arrays at what the pipeline's data say and every semaphore counter at zero. -/
theorem run_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The arguments are unchanged, the result's array is the pipeline's, and every counter is zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = (dats m 0 c).arrAt 4 (cfgM m).N)
      ∧ r.2.sem = fun _ => 0) :=
  (θ_run defs _ _).mono (fun r h => ⟨fun c =>
    ⟨⟨((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).1 3).trans (((dats m 0 c).arrAt_in 3 rfl _).trans ((A_eq m c 3).trans (V_arg4 m c)))⟩, (h.1 c).1 4⟩, h.2⟩)
    (run_quiescent m ρ)

/-- The frame: what `run` says of the arguments and the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run m ρ)

end Cert.KernelIdeal.Launched

end
-- ==== Proof.Launched.Original.lean ====
/- The kernel's run at any reading of the floats, carried over from the idealized program: no operation was replaced in
   the idealization, so the two programs are the same definitions under two names. -/
module

public import proofs.«01_k».proof.Proof.Launched.Run
public import proofs.«01_k».proof.Proof.Gen.Kernel

public section

set_option maxRecDepth 100000

namespace Cert.Kernel.Launched

open Cert.Kernel Idealize.ShloMosaic Idealize.SL.Sem

attribute [local instance] Cert.Kernel.Gen.facts Cert.KernelIdeal.Gen.facts

variable {F : FTy → Type} [FloatOps F]

/-- The body tables of the kernel and of its idealization run the same body. -/
theorem bodies_same : defs₀ (F := F) = Cert.KernelIdeal.defs₀ (F := F) := by
  unfold defs₀ Cert.KernelIdeal.defs₀
  refine congrArg Defs.onTc ?_
  funext l a
  match l, a with
  | 0, (t, s) => rfl
  | ⟨_ + 1, h⟩, _ => exact absurd h (Nat.not_lt.2 (Nat.le_add_left _ _))

/-- Every run of the kernel ends, changes no argument, and leaves every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  unfold defs
  rw [bodies_same]
  exact Cert.KernelIdeal.Launched.frame m ρ

end Cert.Kernel.Launched
-- ==== Proof.Tokens.Reals.lean ====
/- Facts of the extended reals that the two programs' values rest on: sums of reals are real, and over four reals the log-sum-exp
   shifted by the greatest is real, whichever of the two ways it is taken off. -/
module

public import Idealize.ShloMosaic.PureOps.Ideal.Laws

@[expose] public section

noncomputable section

namespace Cert.Tokens

open Idealize.ShloMosaic

/-- A sum of reals, taken in the extended reals. -/
theorem coe_sum {ι : Type} (s : Finset ι) (f : ι → ℝ) : ((∑ i ∈ s, f i : ℝ) : EReal) = ∑ i ∈ s, (f i : EReal) := by
  classical
  exact Finset.induction_on (motive := fun s => ((∑ i ∈ s, f i : ℝ) : EReal) = ∑ i ∈ s, (f i : EReal)) s (by simp)
    fun i s hi h => by rw [Finset.sum_insert hi, Finset.sum_insert hi, EReal.coe_add, h]

/-- The float pattern of minus infinity denotes it, -/
theorem minus_inf : Ideal.ofBits .f32 4286578688#32 = ⊥ := by
  simp [Ideal.ofBits, Ideal.ieee]

/-- and that of infinity likewise. -/
theorem plus_inf : Ideal.ofBits .f32 2139095040#32 = ⊤ := by
  simp [Ideal.ofBits, Ideal.ieee]

/-- The greatest of four values, the fold started at the float pattern of minus infinity. -/
abbrev top4 (z : Fin 4 → EReal) : EReal := Finset.univ.fold max (Ideal.ofBits .f32 4286578688#32) z

/-- The log-sum-exp of four values, shifted by their greatest. -/
abbrev lse4 (z : Fin 4 → EReal) : EReal := top4 z + Ideal.log (∑ a, Ideal.exp (z a - top4 z))

/-- The log-probability of entry `a`, the greatest taken off first. -/
abbrev logp4 (z : Fin 4 → EReal) (a : Fin 4) : EReal :=
  z a - max (Ideal.ofBits .f32 4286578688#32) (top4 z)
    - Ideal.log (∑ a, Ideal.exp (z a - max (Ideal.ofBits .f32 4286578688#32) (top4 z)))

/-- The greatest of four reals is real. -/
theorem top4_real (r : Fin 4 → ℝ) : ∃ M : ℝ, top4 (fun a => (r a : EReal)) = M := by
  refine ⟨max (r 0) (max (r 1) (max (r 2) (r 3))), ?_⟩
  rw [top4, minus_inf]
  rw [show (Finset.univ : Finset (Fin 4)) = {0, 1, 2, 3} from by decide]
  simp only [EReal.coe_strictMono.monotone.map_max]
  simp [Finset.fold_insert]

/-- Over reals both are real, and differ as they should. -/
theorem lse4_real (r : Fin 4 → ℝ) : ∃ q : ℝ, lse4 (fun a => (r a : EReal)) = q ∧ ∀ a, logp4 (fun a => (r a : EReal)) a = ((r a - q : ℝ) : EReal) := by
  obtain ⟨M, hM⟩ := top4_real r
  have hsum : ∑ a, Ideal.exp ((r a : EReal) - (M : EReal)) = ((∑ a, Real.exp (r a - M) : ℝ) : EReal) := by
    rw [coe_sum]; exact Finset.sum_congr rfl fun a _ => by rw [← EReal.coe_sub]; rfl
  have hpos : 0 < ∑ a, Real.exp (r a - M) := Finset.sum_pos (fun a _ => Real.exp_pos _) Finset.univ_nonempty
  have hlog : Ideal.log ((∑ a, Real.exp (r a - M) : ℝ) : EReal) = ((Real.log (∑ a, Real.exp (r a - M)) : ℝ) : EReal) := if_neg (not_le.mpr hpos)
  refine ⟨M + Real.log (∑ a, Real.exp (r a - M)), ?_, fun a => ?_⟩
  · rw [lse4, hM, hsum, hlog, EReal.coe_add]
  · rw [logp4, hM, minus_inf, max_eq_right bot_le, hsum, hlog, ← EReal.coe_sub, ← EReal.coe_sub, sub_sub]

/-- Every pair of a row's group and place and a point is one time of one sequence, and the other way round. -/
def places : Fin 128 × Fin 128 × Fin 4 ≃ Fin 16 × Fin 4096 where
  toFun p := (⟨(p.1.val * 128 + p.2.1.val) % 16, Nat.mod_lt _ (by decide)⟩, ⟨p.2.2.val * 1024 + (p.1.val * 128 + p.2.1.val) / 16, by omega⟩)
  invFun p := (⟨(p.2.val % 1024 * 16 + p.1.val) / 128, by omega⟩, ⟨(p.2.val % 1024 * 16 + p.1.val) % 128, Nat.mod_lt _ (by decide)⟩,
    ⟨p.2.val / 1024, by omega⟩)
  left_inv := fun ⟨g, l, t⟩ => by
    refine Prod.ext (Fin.ext ?_) (Prod.ext (Fin.ext ?_) (Fin.ext ?_)) <;> dsimp only <;> omega
  right_inv := fun ⟨b, t⟩ => by
    refine Prod.ext (Fin.ext ?_) (Fin.ext ?_) <;> dsimp only <;> omega

/-- So a sum over the former is one over the latter. -/
theorem sum_places (f : Fin 16 → Fin 4096 → EReal) :
    ∑ g : Fin 128, ∑ l : Fin 128, ∑ t : Fin 4, f (places (g, l, t)).1 (places (g, l, t)).2 = ∑ b : Fin 16, ∑ t : Fin 4096, f b t := by
  rw [← Fintype.sum_prod_type' (fun b t => f b t), ← Equiv.sum_comp places (fun p => f p.1 p.2), Fintype.sum_prod_type]
  exact Finset.sum_congr rfl fun g _ => by rw [Fintype.sum_prod_type]

/-- The one identity between the two programs: over real logits `r` and log-sum-exps `q`, the live log-sum-exps less the live logits
    of the actions taken are minus the masked log-probabilities. -/
theorem combine (r : Fin 16 → Fin 4096 → Fin 4 → ℝ) (q : Fin 16 → Fin 4096 → ℝ) (act : Fin 16 → Fin 4096 → Fin 4)
    (live : Fin 16 → Fin 4096 → Prop) [∀ b t, Decidable (live b t)] :
    (∑ b, ∑ t, ((if live b t then q b t else 0 : ℝ) : EReal))
        - ∑ a : Fin 4, ∑ b, ∑ t, ((if live b t then if a = act b t then r b t a else 0 else 0 : ℝ) : EReal)
      = -∑ b, ∑ t, ((r b t (act b t) - q b t : ℝ) : EReal) * ((if live b t then 1 else 0 : ℝ) : EReal) := by
  have hterm : ∀ b t, (∑ a : Fin 4, if live b t then if a = act b t then r b t a else 0 else 0)
      = (if live b t then q b t else 0) + (r b t (act b t) - q b t) * (if live b t then 1 else 0) := fun b t => by
    by_cases h : live b t
    · simp [h]
    · simp [h]
  simp only [← EReal.coe_mul, ← coe_sum, ← EReal.coe_sub, ← EReal.coe_neg]
  congr 1
  have hswap : (∑ a : Fin 4, ∑ b, ∑ t, if live b t then if a = act b t then r b t a else 0 else 0)
      = ∑ b, ∑ t, ∑ a : Fin 4, if live b t then if a = act b t then r b t a else 0 else 0 :=
    Finset.sum_comm.trans (Finset.sum_congr rfl fun b _ => Finset.sum_comm)
  rw [hswap, ← Finset.sum_sub_distrib, ← Finset.sum_neg_distrib]
  refine Finset.sum_congr rfl fun b _ => ?_
  rw [← Finset.sum_sub_distrib, ← Finset.sum_neg_distrib]
  refine Finset.sum_congr rfl fun t _ => ?_
  rw [hterm]; ring

end Cert.Tokens

end
-- ==== Proof.Tokens.Payloads.lean ====
/- What the kernel's body computes, read one entry at a time over the extended reals: the logits and log-sum-exp of a row, its time
   step and sequence length, and what each of the two running sums gains from it. -/
module

public import proofs.«01_k».proof.Proof.Launched.Body
public import proofs.«01_k».proof.Proof.Tokens.Reals
public import Idealize.ShloMosaic.Lib.Pointwise

@[expose] public section

set_option maxRecDepth 16384

noncomputable section

namespace Cert.KernelIdeal.Tokens

open Cert.KernelIdeal Cert.KernelIdeal.Gen Cert.KernelIdeal.Launched Cert.Tokens
open Idealize.ShloMosaic

/-- Row `l` of group `g` of a block, counted along the block. -/
abbrev row (g l : Fin 128) : Fin 16384 := ⟨g.val * 128 + l.val, by omega⟩

/-! ## Words -/

/-- The word of a row number: the group times 128 plus the lane. -/
theorem row_word (g l : Fin 128) :
    IntOp.addi (IntOp.muli (BitVec.ofNat 32 g.val) 128#32) (BitVec.ofNat 32 l.val) = BitVec.ofNat 32 (row g l).val := by
  simp only [IntOp.addi, IntOp.muli, BitVec.ofNat_add, BitVec.ofNat_mul]

/-- The low four bits of a row number are its remainder by 16. -/
theorem low_word (r : Fin 16384) : IntOp.andi (BitVec.ofNat 32 r.val) 15#32 = BitVec.ofNat 32 (r.val % 16) := by
  refine BitVec.eq_of_toNat_eq ?_
  have h := r.isLt
  rw [IntOp.andi, BitVec.toNat_and, BitVec.toNat_ofNat, BitVec.toNat_ofNat, BitVec.toNat_ofNat,
    Nat.mod_eq_of_lt (by omega : r.val < 2 ^ 32), Nat.mod_eq_of_lt (by omega : r.val % 16 < 2 ^ 32)]
  exact Nat.and_two_pow_sub_one_eq_mod r.val 4

/-- A row number shifted right by four bits is its quotient by 16. -/
theorem high_word (r : Fin 16384) : IntOp.shrui .vector (BitVec.ofNat 32 r.val) 4#32 = BitVec.ofNat 32 (r.val / 16) := by
  refine BitVec.eq_of_toNat_eq ?_
  have h := r.isLt
  rw [IntOp.shrui, if_pos (by decide), BitVec.ushiftRight_eq', BitVec.toNat_ushiftRight, BitVec.toNat_ofNat, BitVec.toNat_ofNat,
    Nat.shiftRight_eq_div_pow, Nat.mod_eq_of_lt (by omega : r.val < 2 ^ 32), BitVec.toNat_ofNat,
    Nat.mod_eq_of_lt (by omega : r.val / 16 < 2 ^ 32)]

/-- A select on a signed comparison is an if. -/
theorem select_slt {α : Type} (x y : BitVec 32) (a b : α) : Scalar.select (IntOp.cmpi .slt x y) a b = if x.slt y then a else b := by
  show (if BitVec.ofBool (x.slt y) = 1 then a else b) = _
  cases x.slt y <;> rfl

/-- A select on an equality and a signed comparison is an if on both. -/
theorem select_eq_and_slt {α : Type} (u v x y : BitVec 32) (a b : α) :
    Scalar.select (IntOp.andi (IntOp.cmpi .eq u v) (IntOp.cmpi .slt x y)) a b = if x.slt y then if u = v then a else b else b := by
  show (if BitVec.ofBool (u == v) &&& BitVec.ofBool (x.slt y) = 1 then a else b) = _
  by_cases h : u = v
  · rw [beq_iff_eq.mpr h, if_pos h]; cases x.slt y <;> rfl
  · rw [beq_eq_false_iff_ne.mpr h, if_neg h]; cases x.slt y <;> rfl

/-! ## Entries -/

/-- The logit of one action at a row: the product of the row of states with the weights, plus the bias. -/
theorem logits_at (x : Vec Ideal S16384x128 .f32) (w : Vec Ideal S4x128 .f32) (b : Vec Ideal S4 .f32) (a : Fin 4) (g l : Fin 128) :
    logits x w b (ix3 a g l) = ((∑ k, w (ix2 a k) * x (ix2 (row g l) k)) + b (ix1 a) : EReal) := by
  unfold logits
  simp only [cell4_eq]
  pointwise [k0_pay7]
  congr 1
  fin_cases a <;> rfl

/-- The log-sum-exp at a row is that of its four logits. -/
theorem lse_at (x : Vec Ideal S16384x128 .f32) (w : Vec Ideal S4x128 .f32) (b : Vec Ideal S4 .f32) (g l : Fin 128) :
    lse x w b (ix3 0 g l) = lse4 fun a => logits x w b (ix3 a g l) := by
  unfold lse
  unfold k0_pay8
  pointwise
  rfl

/-- The time of a row at a grid point, as a word. -/
theorem time_at (i : grid0.Coords) (g l : Fin 128) :
    time i (ix3 0 g l) = BitVec.ofNat 32 ((i 0).val * 1024 + (row g l).val / 16) := by
  unfold time
  pointwise [k0_pay12, k0_pay10, k0_pay9]
  rw [row_word, high_word]
  simp only [IntOp.addi, Scalar.muli, IntOp.muli, BitVec.ofNat_add, BitVec.ofNat_mul]

/-- The length that a row is compared with is that of its sequence. -/
theorem rowLen_at (x : Vec Ideal S16 .i32) (g l : Fin 128) :
    rowLen (F := Ideal) x (ix3 0 g l) = x (ix1 (⟨(row g l).val % 16, Nat.mod_lt _ (by decide)⟩ : Fin 16)) := by
  unfold rowLen
  simp only [cell16_eq]
  pointwise [k0_pay15, k0_pay13, k0_pay14, k0_pay11, k0_pay10, k0_pay9]
  rw [row_word, low_word]
  have h : ∀ n : Fin 16, n.val = (row g l).val % 16 → BitVec.ofNat 32 ((row g l).val % 16) = BitVec.ofNat 32 n.val := fun n e => by rw [e]
  rw [h ⟨_, Nat.mod_lt _ (by decide)⟩ rfl]
  generalize (⟨(row g l).val % 16, Nat.mod_lt _ (by decide)⟩ : Fin 16) = n
  fin_cases n <;> rfl

/-- A row counts when its time is before its sequence's end: the running sum gains its log-sum-exp, -/
theorem pay2_at (q : FVec Ideal S1x128x128 .f32) (t n : IVec S1x128x128 32) (v : Vec Ideal S1x128x128 .f32) (g l : Fin 128) :
    k0_pay2 q t n v (ix3 0 g l) = (v (ix3 0 g l) + (if (t (ix3 0 g l)).slt (n (ix3 0 g l)) then q (ix3 0 g l) else 0) : EReal) := by
  pointwise [k0_pay2, k0_pay1]
  congr 1
  exact select_slt _ _ _ _

/-- and the other running sum, at the action taken, its logit. -/
theorem pay3_at (z : FVec Ideal S4x128x128 .f32) (t n : IVec S1x128x128 32) (u : Vec Ideal S1x128x128 .i32) (v : Vec Ideal S4x128x128 .f32)
    (a : Fin 4) (g l : Fin 128) :
    k0_pay3 z t n u v (ix3 a g l) = (v (ix3 a g l)
      + (if (t (ix3 0 g l)).slt (n (ix3 0 g l)) then if BitVec.ofNat 32 a.val = u (ix3 0 g l) then z (ix3 a g l) else 0 else 0) : EReal) := by
  pointwise [k0_pay3, k0_pay1]
  congr 1
  exact select_eq_and_slt _ _ _ _ _ _

/-- The result is the difference of the two running sums' totals. -/
theorem pay4_at (v : Vec Ideal S1x128x128 .f32) (w : Vec Ideal S4x128x128 .f32) :
    k0_pay4 v w = ((∑ g : Fin 128, ∑ l : Fin 128, v (ix3 0 g l)) - ∑ a : Fin 4, ∑ g : Fin 128, ∑ l : Fin 128, w (ix3 a g l) : EReal) := by
  pointwise [k0_pay4]
  rw [Ideal.reduceAdd_total _ (by decide), Ideal.reduceAdd_total _ (by decide)]
  unfold shapeCast
  rw [Equiv.sum_comp (Shape.reshapeEquiv _) v, Equiv.sum_comp (Shape.reshapeEquiv _) w, sum_idx3, sum_idx3, Fin.sum_univ_one]

end Cert.KernelIdeal.Tokens

end
-- ==== Proof.Tokens.Blocks.lean ====
/- What the kernel's windows show its body, read off the arguments: row `r` of the block at point `t` is time `1024·t + r/16` of
   sequence `r % 16`. -/
module

public import proofs.«01_k».proof.Proof.Launched.Setup
public import proofs.«01_k».proof.Proof.Tokens.Payloads
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Tokens

open Cert.KernelIdeal Cert.KernelIdeal.Gen Cert.KernelIdeal.Launched Cert.Tokens
open Idealize.ShloMosaic Idealize.ShloMosaic.TcCoe

variable (m : (ℓ : Loc nD τ sig) → Buf (Elt Ideal) ℓ)

/-- The sequence of a row, -/
abbrev seqOf (r : Fin 16384) : Fin 16 := ⟨r.val % 16, Nat.mod_lt _ (by decide)⟩

/-- and its time at grid point `t`. -/
abbrev timeOf (t : Fin 4) (r : Fin 16384) : Fin 4096 := ⟨t.val * 1024 + r.val / 16, by omega⟩

/-! ## The arrays the windows cut -/

theorem V_rows (c : Dev nD) (R : Fin 65552) (k : Fin 128) :
    (V m c main_call0_v1 : Vec Ideal S65552x128 .f32) (ix2 R k)
      = (m ((c : Thread nD τ).loc main_arg0) : Vec Ideal S16x4097x128 .f32) (ix3 ⟨R.val % 16, by omega⟩ ⟨R.val / 16, by omega⟩ k) := by
  unfold V
  after_reads_at

theorem V_acts (c : Dev nD) (t : Fin 4) (g l : Fin 128) :
    (V m c main_call0_v4 : Vec Ideal S4x128x128 .i32) (ix3 t g l)
      = (m ((c : Thread nD τ).loc main_arg1) : Vec Ideal S16x4096 .i32) (ix2 (seqOf (row g l)) (timeOf t (row g l))) := by
  unfold V
  after_reads_at
  refine congrArg (m ((c : Thread nD τ).loc main_arg1) : Vec Ideal S16x4096 .i32) (congrArg₂ ix2 (Fin.ext ?_) (Fin.ext ?_))
  · show l.val % 16 = (g.val * 128 + l.val) % 16
    omega
  · show t.val * 1024 + (g.val * 8 + l.val / 16) = t.val * 1024 + (g.val * 128 + l.val) / 16
    omega

theorem V_wts (c : Dev nD) (a : Fin 4) (k : Fin 128) :
    (V m c main_call0_v5 : Vec Ideal S4x128 .f32) (ix2 a k)
      = (m ((c : Thread nD τ).loc main_arg3) : Vec Ideal S128x4 .f32) (ix2 k a) := by
  unfold V
  after_reads_at

/-! ## The blocks -/

theorem idx_0 : ∀ t : Fin grid0.N, cc0_transform_0 (grid0.coords t) = ![t.val, 0] := by decide +kernel
theorem idx_1 : ∀ t : Fin grid0.N, cc0_transform_1 (grid0.coords t) = ![t.val, 0, 0] := by decide +kernel
theorem idx_2 : ∀ t : Fin grid0.N, cc0_transform_2 (grid0.coords t) = ![0, 0] := by decide +kernel
theorem idx_3 : ∀ t : Fin grid0.N, cc0_transform_3 (grid0.coords t) = ![0] := by decide +kernel

/-- Grid point `t` by its number. -/
def pt (t : Fin 4) : Fin (cfgM m).N := ⟨t.val, by rw [show (cfgM m).N = 4 from N_0]; exact t.isLt⟩

theorem rows_cut (c : Dev nD) (t : Fin 4) (r : Fin 16384) (k : Fin 128) :
    rows m c (pt m t) (ix2 r k) = (V m c main_call0_v1 : Vec Ideal S65552x128 .f32) (ix2 ⟨t.val * 16384 + r.val, by omega⟩ k) := by
  unfold rows whole0 Pipeline.Window.fill
  refine (dif_pos (moved_rows m (pt m t) (ix2 r k))).trans ?_
  blk_ext [iblk]
  · show cc0_transform_0 (grid0.coords (pt m t)) 0 * 16384 + r.val = t.val * 16384 + r.val; rw [idx_0 (pt m t)]; rfl
  · show cc0_transform_0 (grid0.coords (pt m t)) 1 * 128 + k.val = k.val; rw [idx_0 (pt m t)]; exact Nat.zero_add _

theorem acts_cut (c : Dev nD) (t : Fin 4) (g l : Fin 128) :
    acts m c (pt m t) (ix3 0 g l) = (V m c main_call0_v4 : Vec Ideal S4x128x128 .i32) (ix3 t g l) := by
  blk_ext [acts, iblk]
  · show cc0_transform_1 (grid0.coords (pt m t)) 0 + 0 = t.val; rw [idx_1 (pt m t)]; rfl
  · show cc0_transform_1 (grid0.coords (pt m t)) 1 * 128 + g.val = g.val; rw [idx_1 (pt m t)]; exact Nat.zero_add _
  · show cc0_transform_1 (grid0.coords (pt m t)) 2 * 128 + l.val = l.val; rw [idx_1 (pt m t)]; exact Nat.zero_add _

theorem wts_cut (c : Dev nD) (t : Fin 4) (a : Fin 4) (k : Fin 128) :
    wts m c (pt m t) (ix2 a k) = (V m c main_call0_v5 : Vec Ideal S4x128 .f32) (ix2 a k) := by
  blk_ext [wts, iblk]
  · show cc0_transform_2 (grid0.coords (pt m t)) 0 * 4 + a.val = a.val; rw [idx_2 (pt m t)]; exact Nat.zero_add _
  · show cc0_transform_2 (grid0.coords (pt m t)) 1 * 128 + k.val = k.val; rw [idx_2 (pt m t)]; exact Nat.zero_add _

theorem bia_cut (c : Dev nD) (t : Fin 4) (a : Fin 4) :
    bia m c (pt m t) (ix1 a) = (V m c main_arg4 : Vec Ideal S4 .f32) (ix1 a) := by
  blk_ext [bia, iblk]
  · show cc0_transform_3 (grid0.coords (pt m t)) 0 * 4 + a.val = a.val; rw [idx_3 (pt m t)]; exact Nat.zero_add _

/-! ## In terms of the arguments -/

/-- The five arguments as launched. -/
abbrev states (c : Dev nD) : Vec Ideal S16x4097x128 .f32 := m ((c : Thread nD τ).loc main_arg0)
abbrev actions (c : Dev nD) : Vec Ideal S16x4096 .i32 := m ((c : Thread nD τ).loc main_arg1)
abbrev lengths (c : Dev nD) : Vec Ideal S16 .i32 := m ((c : Thread nD τ).loc main_arg2)
abbrev weights (c : Dev nD) : Vec Ideal S128x4 .f32 := m ((c : Thread nD τ).loc main_arg3)
abbrev bias (c : Dev nD) : Vec Ideal S4 .f32 := m ((c : Thread nD τ).loc main_arg4)

/-- Time `t` of an episode among the times of the states, of which there is one more. -/
abbrev lift (t : Fin 4096) : Fin 4097 := ⟨t.val, by omega⟩

theorem rows_at (c : Dev nD) (t : Fin 4) (r : Fin 16384) (k : Fin 128) :
    rows m c (pt m t) (ix2 r k) = states m c (ix3 (seqOf r) (lift (timeOf t r)) k) := by
  rw [rows_cut, V_rows]
  refine congrArg (states m c) (congrArg₂ (fun x y => ix3 x y k) (Fin.ext ?_) (Fin.ext ?_))
  · show (t.val * 16384 + r.val) % 16 = r.val % 16; omega
  · show (t.val * 16384 + r.val) / 16 = t.val * 1024 + r.val / 16; omega

theorem acts_at (c : Dev nD) (t : Fin 4) (g l : Fin 128) :
    acts m c (pt m t) (ix3 0 g l) = actions m c (ix2 (seqOf (row g l)) (timeOf t (row g l))) := (acts_cut m c t g l).trans (V_acts m c (pt m t) g l)

theorem wts_at (c : Dev nD) (t : Fin 4) (a : Fin 4) (k : Fin 128) : wts m c (pt m t) (ix2 a k) = weights m c (ix2 k a) :=
  (wts_cut m c t a k).trans (V_wts m c a k)

theorem bia_at (c : Dev nD) (t : Fin 4) (a : Fin 4) : bia m c (pt m t) (ix1 a) = bias m c (ix1 a) :=
  (bia_cut m c t a).trans (congrFun (V_arg4 m c) (ix1 a))

theorem lens_at (c : Dev nD) (b : Fin 16) : lens m (ix1 b) = lengths m c (ix1 b) := by
  obtain rfl : c = 0 := Subsingleton.elim _ _
  exact congrFun (V_arg2 m 0) (ix1 b)

/-! ## The running sums -/

/-- The logit of action `a` at time `t` of sequence `b`. -/
def logit (c : Dev nD) (b : Fin 16) (t : Fin 4096) (a : Fin 4) : EReal :=
  (∑ k : Fin 128, weights m c (ix2 k a) * states m c (ix3 b (lift t) k)) + bias m c (ix1 a)

/-- Time `t` of sequence `b` is before its end. -/
abbrev Live (c : Dev nD) (b : Fin 16) (t : Fin 4096) : Prop := (BitVec.ofNat 32 t.val).slt (lengths m c (ix1 b)) = true

/-- What a step adds to the first sum at time `t` of sequence `b`, -/
def gain1 (c : Dev nD) (b : Fin 16) (t : Fin 4096) : EReal := if Live m c b t then lse4 (logit m c b t) else 0

/-- and to the second, at action `a`. -/
def gain2 (c : Dev nD) (a : Fin 4) (b : Fin 16) (t : Fin 4096) : EReal :=
  if Live m c b t then if BitVec.ofNat 32 a.val = actions m c (ix2 b t) then logit m c b t a else 0 else 0

/-- The logits of a block are those of the tokens in its rows. -/
theorem logits_block (c : Dev nD) (t : Fin 4) (a : Fin 4) (g l : Fin 128) :
    logits (rows m c (pt m t)) (wts m c (pt m t)) (bia m c (pt m t)) (ix3 a g l) = logit m c (seqOf (row g l)) (timeOf t (row g l)) a := by
  rw [logits_at, bia_at, logit]
  exact congrArg (· + _) (Finset.sum_congr rfl fun k _ => by rw [rows_at, wts_at])

theorem coords_zero : ∀ t : Fin grid0.N, (grid0.coords t 0).val = t.val := by decide +kernel

/-- The times of a block, as words. -/
theorem time_block (t : Fin 4) (g l : Fin 128) : time (grid0.coords (pt m t)) (ix3 0 g l) = BitVec.ofNat 32 (timeOf t (row g l)).val := by
  rw [time_at, coords_zero]
  rfl

/-- The lengths of a block are those of the sequences in its rows. -/
theorem len_block (c : Dev nD) (g l : Fin 128) : rowLen (F := Ideal) (lens m) (ix3 0 g l) = lengths m c (ix1 (seqOf (row g l))) :=
  (rowLen_at _ g l).trans (lens_at m c _)

/-- One grid point adds to the first accumulator. -/
theorem acc_succ_1 (c : Dev nD) (t : Fin 4) (g l : Fin 128) :
    (acc m c (t.val + 1)).1 (ix3 0 g l) = ((acc m c t.val).1 (ix3 0 g l) + gain1 m c (seqOf (row g l)) (timeOf t (row g l)) : EReal) := by
  refine (congrArg (fun p => p.1 (ix3 0 g l)) (acc_succ m c (pt m t))).trans ?_
  show step1 _ _ _ _ _ _ _ = _
  rw [step1, pay2_at, time_block m t, len_block m c, lse_at, gain1]
  simp only [logits_block]
  rfl

/-- One grid point adds to the second accumulator. -/
theorem acc_succ_2 (c : Dev nD) (t : Fin 4) (a : Fin 4) (g l : Fin 128) :
    (acc m c (t.val + 1)).2 (ix3 a g l) = ((acc m c t.val).2 (ix3 a g l) + gain2 m c a (seqOf (row g l)) (timeOf t (row g l)) : EReal) := by
  refine (congrArg (fun p => p.2 (ix3 a g l)) (acc_succ m c (pt m t))).trans ?_
  show step2 _ _ _ _ _ _ _ _ = _
  rw [step2, pay3_at, time_block m t, len_block m c, acts_at, logits_block, gain2]
  rfl

/-- The first accumulator starts at zero. -/
theorem acc_zero_1 (c : Dev nD) (g l : Fin 128) : (acc m c 0).1 (ix3 0 g l) = (0 : EReal) := by
  show k0_pay5 (F := Ideal) (ix3 0 g l) = _
  pointwise [k0_pay5]

/-- The second accumulator starts at zero. -/
theorem acc_zero_2 (c : Dev nD) (a : Fin 4) (g l : Fin 128) : (acc m c 0).2 (ix3 a g l) = (0 : EReal) := by
  show k0_pay6 (F := Ideal) (ix3 a g l) = _
  pointwise [k0_pay6]

/-- After the last point the first accumulator holds the sum over the points. -/
theorem acc_four_1 (c : Dev nD) (g l : Fin 128) :
    (acc m c 4).1 (ix3 0 g l) = ∑ t : Fin 4, gain1 m c (seqOf (row g l)) (timeOf t (row g l)) := by
  rw [Fin.sum_univ_four, ← zero_add (gain1 m c _ (timeOf 0 _)), ← acc_zero_1 m c g l]
  exact (acc_succ_1 m c 3 g l).trans (congrArg (· + _) ((acc_succ_1 m c 2 g l).trans (congrArg (· + _) ((acc_succ_1 m c 1 g l).trans
    (congrArg (· + _) (acc_succ_1 m c 0 g l))))))

/-- After the last point the second accumulator holds the sum over the points. -/
theorem acc_four_2 (c : Dev nD) (a : Fin 4) (g l : Fin 128) :
    (acc m c 4).2 (ix3 a g l) = ∑ t : Fin 4, gain2 m c a (seqOf (row g l)) (timeOf t (row g l)) := by
  rw [Fin.sum_univ_four, ← zero_add (gain2 m c a _ (timeOf 0 _)), ← acc_zero_2 m c a g l]
  exact (acc_succ_2 m c 3 a g l).trans (congrArg (· + _) ((acc_succ_2 m c 2 a g l).trans (congrArg (· + _) ((acc_succ_2 m c 1 a g l).trans
    (congrArg (· + _) (acc_succ_2 m c 0 a g l))))))

end Cert.KernelIdeal.Tokens

end
-- ==== Proof.Tokens.Finite.lean ====
/- What the precondition says of the arguments: the states, the weights and the bias are real, and every action is one of the four. -/
module

public import proofs.«01_k».proof.Defs
public import proofs.«01_k».proof.Proof.Tokens.Reals
public import Idealize.ShloMosaic.Lib.Pointwise

@[expose] public section

set_option maxRecDepth 16384

noncomputable section

namespace Cert.Pre_finite_and_in_range

open Cert.Tokens
open Idealize.ShloMosaic

instance facts : Facts where
  slices_S16x4097x128_S16x4096x128_0_0_0 := by decide
  bcast_S_S16x4096x128 := by decide
  bcast_S_S16x4096 := by decide
  bcast_S_S128x4 := by decide
  bcast_S_S4 := by decide
  bcast_S16x4096_S16x4096x1_0_1 := by decide
  bcast_S16x4096x1_S16x4096x128_0_1_2 := by decide
  bcast_S16x4096x128_S16x4096x128x1_0_1_2 := by decide
  bcast_S4_S1x4_1 := by decide
  bcast_S1x4_S128x4_0_1 := by decide
  bcast_S128x4_S1x1x128x4_2_3 := by decide
  bcast_S16x4096x128x1_S16x4096x128x4_0_1_2_3 := by decide
  bcast_S1x1x128x4_S16x4096x128x4_0_1_2_3 := by decide

/-- Two bits whose conjunction is one are one. -/
theorem both_of_andi : ∀ a b : BitVec 1, IntOp.andi a b = 1#1 → a = 1#1 ∧ b = 1#1 := by decide

/-- A value of magnitude less than infinity is real. -/
theorem real_of_abs (x : EReal) (h : BitVec.ofBool (decide (max x (-x) < Ideal.ofBits .f32 2139095040#32)) = 1#1) : ∃ r : ℝ, x = r := by
  have h' : max x (-x) < ⊤ := by
    rw [← plus_inf]
    by_contra hn
    rw [decide_eq_false hn] at h
    exact absurd h (by decide)
  induction x with
  | bot => exact absurd h' (by simp)
  | top => exact absurd h' (by simp)
  | coe r => exact ⟨r, rfl⟩

/-- A word at least zero and less than four is one of the four. -/
theorem action_of_range (v : BitVec 32) (h0 : IntOp.cmpi .sge v 0#32 = 1#1) (h4 : IntOp.cmpi .slt v 4#32 = 1#1) :
    ∃ k : Fin 4, v = BitVec.ofNat 32 k.val := by
  have e0 : (0#32).sle v = true := by
    by_contra hn; rw [IntOp.cmpi] at h0; simp only [Bool.eq_false_iff.mpr hn] at h0; exact absurd h0 (by decide)
  have e4 : v.slt 4#32 = true := by
    by_contra hn; rw [IntOp.cmpi] at h4; simp only [Bool.eq_false_iff.mpr hn] at h4; exact absurd h4 (by decide)
  have i0 : (0 : Int) ≤ v.toInt := by simpa using BitVec.sle_iff_toInt_le.mp e0
  have i4 : v.toInt < 4 := BitVec.slt_iff_toInt_lt.mp e4
  have hv := v.isLt
  rw [BitVec.toInt_eq_toNat_cond] at i0 i4
  refine ⟨⟨v.toNat, by split at i0 <;> omega⟩, ?_⟩
  exact BitVec.eq_of_toNat_eq (by simp)

/-- The precondition, entry by entry. -/
theorem of_pre (s : FVec Ideal S16x4097x128 .f32) (u : IVec S16x4096 32) (n : IVec S16 32) (w : FVec Ideal S128x4 .f32) (z : FVec Ideal S4 .f32)
    (h : fn s u n w z = fun _ => 1#1) (b : Fin 16) (t : Fin 4096) (k : Fin 128) (a : Fin 4) :
    (∃ r : ℝ, s (ix3 b (⟨t.val, by omega⟩ : Fin 4097) k) = (r : EReal)) ∧ (∃ q : Fin 4, u (ix2 b t) = BitVec.ofNat 32 q.val)
      ∧ (∃ r : ℝ, w (ix2 k a) = (r : EReal)) ∧ ∃ r : ℝ, z (ix1 a) = (r : EReal) := by
  have e := congrFun h (ix4 b t k a)
  pointwise [fn, fn_part1] at e
  obtain ⟨e1, e2⟩ := both_of_andi _ _ e
  obtain ⟨hs, hu⟩ := both_of_andi _ _ e1
  obtain ⟨hw, hz⟩ := both_of_andi _ _ e2
  obtain ⟨h0, h4⟩ := both_of_andi _ _ hu
  exact ⟨real_of_abs _ hs, action_of_range _ h0 h4, real_of_abs _ hw, real_of_abs _ hz⟩

end Cert.Pre_finite_and_in_range

end
-- ==== Proof.Tokens.Reference.lean ====
/- The reference's result, read as one sum over every time of every sequence. -/
module

public import proofs.«01_k».proof.Proof.Gen.ReferenceIdeal.Run
public import proofs.«01_k».proof.Proof.Tokens.Reals
public import Idealize.ShloMosaic.Lib.Pointwise
public import Idealize.ShloMosaic.Lib.Tactic.CleanTypes

@[expose] public section

set_option maxRecDepth 16384

noncomputable section

namespace Cert.ReferenceIdeal.Tokens

open Cert.ReferenceIdeal Cert.ReferenceIdeal.Gen Cert.ReferenceIdeal.Value Cert.Tokens
open Idealize.ShloMosaic Idealize.ShloMosaic.TcCoe

/-- The gather along the last axis, at a start index in range. -/
theorem gather_at {α : Type} (x : S16x4096x4.Idx → α) (idx : IVec S16x4096x1x1 32) (b : Fin 16) (t : Fin 4096) (k : Fin 4)
    (h : idx (ix4 b t 0 0) = BitVec.ofNat 32 k.val) :
    Host.gather gather_S16x4096x4_S16x4096x1x1_S16x4096x1_n_2_01_01_2_3_111 x idx (ix3 b t 0) = x (ix3 b t k) := by
  unfold Host.gather
  refine congrArg x ?_
  funext a
  refine Fin.ext ?_
  show GatherDims.start _ _ _ a + GatherDims.batchCoord _ _ a + GatherDims.offCoord _ _ a = _
  rcases (by decide : ∀ a : Fin 3, a = 0 ∨ a = 1 ∨ a = 2) a with rfl | rfl | rfl
  · rw [GatherDims.start_batching _ _ _ _ (by decide), GatherDims.offCoord_eq_zero _ _ _ (by decide), GatherDims.batchCoord, dif_pos (by decide)]
    exact Nat.zero_add _
  · rw [GatherDims.start_batching _ _ _ _ (by decide), GatherDims.offCoord_eq_zero _ _ _ (by decide), GatherDims.batchCoord, dif_pos (by decide)]
    exact Nat.zero_add _
  · rw [GatherDims.batchCoord_eq_zero _ _ _ (by decide), GatherDims.offCoord_eq_zero _ _ _ (by decide), GatherDims.start, dif_pos (by decide)]
    have hsi : GatherDims.siIdx gather_S16x4096x4_S16x4096x1x1_S16x4096x1_n_2_01_01_2_3_111 (ix3 b t 0) ⟨0, by decide⟩ = ix4 b t 0 0 := by
      funext b'; refine Fin.ext ?_
      match b' with
      | ⟨0, _⟩ => rfl
      | ⟨1, _⟩ => rfl
      | ⟨2, _⟩ => rfl
      | ⟨3, _⟩ => rfl
    show min (idx (GatherDims.siIdx gather_S16x4096x4_S16x4096x1x1_S16x4096x1_n_2_01_01_2_3_111 (ix3 b t 0) ⟨0, by decide⟩)).toInt.toNat 3 + 0 + 0 = k.val
    rw [hsi, h]
    fin_cases k <;> rfl

/-- The wrap of negative words leaves an action in range as it is, -/
theorem wrap_word (v : BitVec 32) (k : Fin 4) (h : v = BitVec.ofNat 32 k.val) :
    Scalar.select (IntOp.cmpi .slt v 0#32) (IntOp.addi v 4#32) v = BitVec.ofNat 32 k.val := by
  subst h; fin_cases k <;> rfl

/-- and the test that it is in range succeeds. -/
theorem inside_word (v : BitVec 32) (k : Fin 4) (h : v = BitVec.ofNat 32 k.val) :
    Finset.fold IntOp.andi (1#1) (fun _ : Fin 1 =>
      IntOp.andi (IntOp.cmpi .sge (Scalar.select (IntOp.cmpi .slt v 0#32) (IntOp.addi v 4#32) v) 0#32)
        (IntOp.cmpi .sle (Scalar.select (IntOp.cmpi .slt v 0#32) (IntOp.addi v 4#32) v) 3#32)) Finset.univ = 1#1 := by
  rw [wrap_word v k h]; fin_cases k <;> rfl

variable (m : (ℓ : Loc nD τ sig) → Buf (Elt Ideal) ℓ)

/-- The five arguments as launched. -/
abbrev states (c : Dev nD) : Vec Ideal S16x4097x128 .f32 := m ((c.tc : Thread nD τ).loc main_arg0)
abbrev actions (c : Dev nD) : Vec Ideal S16x4096 .i32 := m ((c.tc : Thread nD τ).loc main_arg1)
abbrev lengths (c : Dev nD) : Vec Ideal S16 .i32 := m ((c.tc : Thread nD τ).loc main_arg2)
abbrev weights (c : Dev nD) : Vec Ideal S128x4 .f32 := m ((c.tc : Thread nD τ).loc main_arg3)
abbrev bias (c : Dev nD) : Vec Ideal S4 .f32 := m ((c.tc : Thread nD τ).loc main_arg4)

/-- Time `t` of an episode among the times of the states, of which there is one more. -/
abbrev lift (t : Fin 4096) : Fin 4097 := ⟨t.val, by omega⟩

/-- The logit of action `a` at time `t` of sequence `b`. -/
def logit (c : Dev nD) (b : Fin 16) (t : Fin 4096) (a : Fin 4) : EReal :=
  (∑ k : Fin 128, states m c (ix3 b (lift t) k) * weights m c (ix2 k a)) + bias m c (ix1 a)

/-- One if time `t` of sequence `b` is before its end, else zero. -/
def mask (c : Dev nD) (b : Fin 16) (t : Fin 4096) : EReal :=
  FloatOps.uitofp (F := Ideal) .f32 (IntOp.cmpi .slt (BitVec.ofNat 32 t.val) (lengths m c (ix1 b)))

/-- With every action in range, the result is minus the sum of the log-probabilities of the actions taken, each with its mask. -/
theorem result_at (c : Dev nD) (act : Fin 16 → Fin 4096 → Fin 4) (hact : ∀ b t, actions m c (ix2 b t) = BitVec.ofNat 32 (act b t).val) :
    (res_main_v19 m c : Vec Ideal S1x1 .f32) (ix2 0 0) = (-∑ b : Fin 16, ∑ t : Fin 4096, logp4 (logit m c b t) (act b t) * mask m c b t : EReal) := by
  unfold res_main_v19
  clean_types
  pointwise
  refine congrArg (fun x : EReal => -x) (Finset.sum_congr rfl fun b _ => Finset.sum_congr rfl fun t _ => ?_)
  refine congrArg₂ (fun x y : EReal => x * y) ?_ rfl
  rw [gather_at _ _ b t (act b t) (by pointwise; exact wrap_word _ _ (hact b t))]
  refine (congrArg₂ (fun (p : BitVec 1) (x : EReal) => Scalar.select p x (Ideal.ofBits .f32 2143289344#32)) (inside_word _ _ (hact b t)) ?_ :
    _ = Scalar.select (1#1) (logp4 (logit m c b t) (act b t)) (Ideal.ofBits .f32 2143289344#32))
  pointwise
  rfl

end Cert.ReferenceIdeal.Tokens

end
-- ==== Proof.Tokens.Equal.lean ====
/- The kernel's result and the reference's are one value, whenever the arguments are finite and the actions in range. -/
module

public import proofs.«01_k».proof.Proof.Launched.Run
public import proofs.«01_k».proof.Proof.Tokens.Blocks
public import proofs.«01_k».proof.Proof.Tokens.Finite
public import proofs.«01_k».proof.Proof.Tokens.Reference

@[expose] public section

set_option maxRecDepth 16384

noncomputable section

namespace Cert.Equal

open Cert.KernelIdeal.Launched Cert.KernelIdeal.Tokens Cert.Tokens
open Idealize.ShloMosaic Idealize.ShloMosaic.TcCoe

/-- The one index of the result. -/
theorem only_index (j : Cert.KernelIdeal.S1x1.Idx) : j = ix2 0 0 :=
  (eq_ix2 j).trans (congrArg₂ ix2 (Subsingleton.elim _ _) (Subsingleton.elim _ _))

/-! ## The kernel's result -/

section Kernel

open Cert.KernelIdeal Cert.KernelIdeal.Gen

variable (m : (ℓ : Loc nD τ sig) → Buf (Elt Ideal) ℓ)

/-- The result is written back once, whole, at the last point. -/
theorem whole_4 : ((cfgM m).win 4).WholeAt (pt m 3) :=
  ⟨(by decide +kernel : Pipeline.Window.flushOf grid0 true cc0_transform_4 t0_3 = true),
    fun t h => (by decide +kernel : ∀ t : Fin grid0.N, Pipeline.Window.flushOf grid0 true cc0_transform_4 t = true → t = t0_3) t h,
    fun a => (by decide +kernel : ∀ a : Fin 2, cc0_transform_4 (grid0.coords t0_3) a = 0 ∧ S1x1.size a = S1x1.size a) a⟩

/-- So its array ends holding what the running sums give after all four points. -/
theorem arr_eq (c : Dev nD) : (dats m 0 c).arrAt 4 (cfgM m).N = result m c 4 :=
  (dats m 0 c).arrAt_eq_of_after_last 4 (pt m 3) (whole_4 m) _ fun j => by rw [after_4]; rfl

/-- It is the total of the live log-sum-exps less that of the live logits of the actions taken. -/
theorem result_eq (c : Dev nD) (j : S1x1.Idx) :
    result m c 4 j = ((∑ b, ∑ t, gain1 m c b t) - ∑ a : Fin 4, ∑ b, ∑ t, gain2 m c a b t : EReal) := by
  rw [result, pay4_at]
  simp only [acc_four_1, acc_four_2]
  exact congrArg₂ (fun x y : EReal => x - y) (sum_places fun b t => gain1 m c b t)
    (Finset.sum_congr rfl fun a _ => sum_places fun b t => gain2 m c a b t)

end Kernel

/-! ## Both -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Words for actions are the same word only for the same action. -/
theorem word_inj : ∀ a k : Fin 4, BitVec.ofNat 32 a.val = BitVec.ofNat 32 k.val ↔ a = k := by decide

/-- On arguments that satisfy the precondition the two results are equal. -/
theorem value_eq (c : Dev Cert.KernelIdeal.nD) (hpre : Cert.Pre_KernelIdeal_finite_and_in_range m)
    (h0 : Cert.ReferenceIdeal.Tokens.states m' c = states m c) (h1 : Cert.ReferenceIdeal.Tokens.actions m' c = actions m c)
    (h2 : Cert.ReferenceIdeal.Tokens.lengths m' c = lengths m c) (h3 : Cert.ReferenceIdeal.Tokens.weights m' c = weights m c)
    (h4 : Cert.ReferenceIdeal.Tokens.bias m' c = bias m c) :
    (Cert.ReferenceIdeal.Value.res_main_v19 m' c : Vec Ideal Cert.KernelIdeal.S1x1 .f32) = result m c 4 := by
  have H := Cert.Pre_finite_and_in_range.of_pre _ _ _ _ _ (hpre c)
  choose s hs using fun b t k => (H b t k 0).1
  choose act hact using fun b t => (H b t 0 0).2.1
  choose w hw using fun k a => (H 0 0 k a).2.2.1
  choose z hz using fun a => (H 0 0 0 a).2.2.2
  have hl : ∀ b t, logit m c b t = fun a => (((∑ k, w k a * s b t k) + z a : ℝ) : EReal) := fun b t => funext fun a => by
    rw [logit, EReal.coe_add, coe_sum]
    exact congrArg₂ (fun x y : EReal => x + y) (Finset.sum_congr rfl fun k _ => by
      rw [EReal.coe_mul]; exact congrArg₂ (fun x y : EReal => x * y) (hw k a) (hs b t k)) (hz a)
  have hl' : ∀ b t, Cert.ReferenceIdeal.Tokens.logit m' c b t = logit m c b t := fun b t => funext fun a => by
    rw [logit, Cert.ReferenceIdeal.Tokens.logit, h0, h3, h4]
    exact congrArg (fun x : EReal => x + _) (Finset.sum_congr rfl fun k _ => mul_comm _ _)
  choose q hq hp using fun b t => lse4_real fun a => (∑ k, w k a * s b t k) + z a
  have g1 : ∀ b t, gain1 m c b t = ((if Live m c b t then q b t else 0 : ℝ) : EReal) := fun b t => by
    rw [gain1, hl, hq]; split <;> rfl
  have g2 : ∀ a b t, gain2 m c a b t
      = ((if Live m c b t then if a = act b t then (∑ k, w k a * s b t k) + z a else 0 else 0 : ℝ) : EReal) := fun a b t => by
    rw [gain2, hl, show actions m c (ix2 b t) = _ from hact b t]
    simp only [word_inj]
    split
    · split <;> rfl
    · rfl
  have hm : ∀ b t, Cert.ReferenceIdeal.Tokens.mask m' c b t = ((if Live m c b t then 1 else 0 : ℝ) : EReal) := fun b t => by
    rw [Cert.ReferenceIdeal.Tokens.mask, h2]
    show (((BitVec.ofBool ((BitVec.ofNat 32 t.val).slt (lengths m c (ix1 b)))).toNat : ℝ) : EReal) = _
    by_cases h : (BitVec.ofNat 32 t.val).slt (lengths m c (ix1 b)) = true
    · rw [if_pos h, h]; simp
    · rw [if_neg h, Bool.eq_false_iff.mpr h]; simp
  funext j
  obtain rfl := only_index j
  refine (Cert.ReferenceIdeal.Tokens.result_at m' c act fun b t => (congrFun h1 (ix2 b t)).trans (hact b t)).trans ?_
  rw [result_eq]
  simp only [g1, g2, hm, hl', hl, hp]
  exact (combine (fun b t a => (∑ k, w k a * s b t k) + z a) q act (fun b t => Live m c b t)).symm

end Cert.Equal

end
-- ==== Proof.lean ====
module

public import proofs.«01_k».proof.Defs
public import proofs.«01_k».proof.Proof.Launched.Original
public import proofs.«01_k».proof.Proof.Gen.ReferenceIdeal.Run
public import proofs.«01_k».proof.Proof.Tokens.Equal
public import Idealize.ShloMosaic.Lib.Claim

@[expose] public section

noncomputable section

namespace Cert.Proof

open Idealize.ShloMosaic Idealize.SL.Sem

/-- Every run of the reference ends, changes no argument, and leaves every semaphore at zero: it has none. -/
theorem frame_reference : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

/-- From memories that agree on arguments satisfying the precondition, the kernel and the reference end with equal results. -/
theorem algebraic : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.facts) :=
  fun m g m' g' hpre hagree => ⟨fun c => Cert.KernelIdeal.Launched.result m c 4,
    θ_run_mono (Cert.KernelIdeal.Launched.run m g) fun r h c => ⟨(h.1 c).2.trans (Cert.Equal.arr_eq m c), (h.1 c).1⟩,
    θ_run_mono (Cert.ReferenceIdeal.Value.run m' g') fun r h c => ⟨(h c).1.trans (Cert.Equal.value_eq m m' c hpre
      (hagree c).1 (hagree c).2.1 (hagree c).2.2.1 (hagree c).2.2.2.1 (hagree c).2.2.2.2), (h c).2⟩⟩

/-- All the claims together. -/
theorem claim : Cert.Claim := ⟨Cert.Kernel.Gen.facts, Cert.KernelIdeal.Gen.facts, Cert.ReferenceIdeal.Gen.facts, Cert.Pre_finite_and_in_range.facts,
  fun m g _ => Cert.Kernel.Launched.frame m g, fun m g _ => Cert.KernelIdeal.Launched.frame m g, fun m g _ => Cert.KernelIdeal.Launched.frame m g,
  frame_reference, fun m g _ => frame_reference m g trivial, trivial, algebraic⟩

end Cert.Proof

end
